-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 4096, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 4096, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x256 .f32) (main_arg2 : FVec F S2x256x4x64 .f32) (main_arg3 : FVec F S2x256x4x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x4096x512 .f32) (main_arg1 : FVec F S512x256 .f32) (main_arg2 : FVec F S2x4096x4x64 .f32) (main_arg3 : FVec F S2x4096x4x64 .f32) (main_arg4 : FVec F S256x512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x4096x4x64 .f32 := Host.absf main_arg2
  let main_cst_2 : FVec F S_ .f32 := constant S_ .f32 0x7F800000#32
  let main_v10 : FVec F S2x4096x4x64 .f32 := broadcastInDim S2x4096x4x64 ![] bcast_S_S2x4096x4x64 main_cst_2
  let main_v11 : IVec S2x4096x4x64 1 := cmpf .olt main_v9 main_v10
  let main_c_3 : IVec S_ 1 := constantI S_ 1 1#1
  let main_v12 : IVec S_ 1 := (fun x v => Host.reduce IntOp.andi x v reducesTo_S2x4096x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x512x256 : Shape := ⟨3, ![2, 512, 256]⟩
abbrev S4 : Shape := ⟨1, ![4]⟩
abbrev S_ : Shape := ⟨0, ![]⟩
abbrev S2x256x256 : Shape := ⟨3, ![2, 256, 256]⟩
abbrev S1 : Shape := ⟨1, ![1]⟩
abbrev S2x128x256 : Shape := ⟨3, ![2, 128, 256]⟩
abbrev S512x512 : Shape := ⟨2, ![512, 512]⟩
abbrev S128x384 : Shape := ⟨2, ![128, 384]⟩
abbrev S128x64 : Shape := ⟨2, ![128, 64]⟩
abbrev S1x384x64 : Shape := ⟨3, ![1, 384, 64]⟩
abbrev S384x64 : Shape := ⟨2, ![384, 64]⟩
abbrev S128 : Shape := ⟨1, ![128]⟩
abbrev S128x1 : Shape := ⟨2, ![128, 1]⟩
abbrev S128x256 : Shape := ⟨2, ![128, 256]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x4x64, .f32⟩
  | .hbm, ⟨3, _⟩ => ⟨S2x256x4x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x4x64, .f32⟩
  | .local _ .vmem, ⟨3, _⟩ => ⟨S2x256x4x64, .f32⟩
  | .local _ .vmem, ⟨4, _⟩ => ⟨S256x512, .f32⟩
  | .local _ .vmem, ⟨5, _⟩ => ⟨S2x256x512, .f32⟩
  | .local _ .vmem, ⟨6, _⟩ => ⟨S2x512x256, .bf16⟩
  | .local _ .vmem, ⟨7, _⟩ => ⟨S2x512x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_24 : BitVec 32 := 1#32
  let v27 : BitVec 32 := Scalar.muli v7 c1_i32_24
  let v28 : BitVec 32 := Scalar.addi c0_i32_25 v27
  v28.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_33 : BitVec 32 := 1#32
  let v35 : BitVec 32 := Scalar.muli v7 c1_i32_33
  let v36 : BitVec 32 := Scalar.addi c0_i32_34 v35
  v36.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_43 : BitVec 32 := 1#32
  let v43 : BitVec 32 := Scalar.muli v5 c1_i32_43
  let v44 : BitVec 32 := Scalar.addi c0_i32_44 v43
  v44.toNat
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_50 : BitVec 32 := 1#32
  let v51 : BitVec 32 := Scalar.muli v5 c1_i32_50
  let v52 : BitVec 32 := Scalar.addi c0_i32_51 v51
  v52.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 57
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x256, .f32⟩
  | .hbm, ⟨2, _⟩ => ⟨S2x4096x4x64, .f32⟩
  | .hbm, ⟨3, _⟩ => ⟨S2x4096x4x64, .f32⟩
  | .hbm, ⟨4, _⟩ => ⟨S256x512, .f32⟩
  | .hbm, ⟨5, _⟩ => ⟨S2x4096x256, .f32⟩
  | .hbm, ⟨6, _⟩ => ⟨S2x4096x4x64, .f32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S1x4096, .i32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S2x4x4096x4096, .f32⟩
  | .hbm, ⟨19, _⟩ => ⟨S_, .f32⟩
  | .hbm, ⟨20, _⟩ => ⟨S2x4x4096x4096, .f32⟩
  | .hbm, ⟨21, _⟩ => ⟨S2x4x4096x4096, .f32⟩
  | .hbm, ⟨22, _⟩ => ⟨S1x1x4096x4096, .i1⟩
  | .hbm, ⟨23, _⟩ => ⟨S_, .f32⟩
  | .hbm, ⟨24, _⟩ => ⟨S_, .f32⟩
  | .hbm, ⟨25, _⟩ => ⟨S2x4x4096x4096, .i1⟩
  | .hbm, ⟨26, _⟩ => ⟨S2x4x4096x4096, .f32⟩
  | .hbm, ⟨27, _⟩ => ⟨S2x4x4096x4096, .f32⟩
  | .hbm, ⟨28, _⟩ => ⟨S_, .f32⟩
  | .hbm, ⟨29, _⟩ => ⟨S2x4x4096, .f32⟩
  | .hbm, ⟨30, _⟩ => ⟨S2x4x4096x1, .f32⟩
  | .hbm, ⟨31, _⟩ => ⟨S2x4x4096x4096, .f32⟩
  | .hbm, ⟨32, _⟩ => ⟨S2x4x4096x4096, .f32⟩
  | .hbm, ⟨33, _⟩ => ⟨S2x4x4096x4096, .f32⟩
  | .hbm, ⟨34, _⟩ => ⟨S_, .i1⟩
  | .hbm, ⟨35, _⟩ => ⟨S4096, .i1⟩
  | .hbm, ⟨36, _⟩ => ⟨S1x1x4096x1, .i1⟩
  | .hbm, ⟨37, _⟩ => ⟨S_, .f32⟩
  | .hbm, ⟨38, _⟩ => ⟨S2x4x4096, .f32⟩
  | .hbm, ⟨39, _⟩ => ⟨S2x4x4096x1, .f32⟩
  | .hbm, ⟨40, _⟩ => ⟨S_, .f32⟩
  | .hbm, ⟨41, _⟩ => ⟨S_, .f32⟩
  | .hbm, ⟨42, _⟩ => ⟨S2x4x4096x1, .i1⟩
  | .hbm, ⟨43, _⟩ => ⟨S2x4x4096x1, .f32⟩
  | .hbm, ⟨44, _⟩ => ⟨S2x4x4096x1, .f32⟩
  | .hbm, ⟨45, _⟩ => ⟨S2x4x4096x4096, .f32⟩
  | .hbm, ⟨46, _⟩ => ⟨S2x4x4096x4096, .f32⟩
  | .hbm, ⟨47, _⟩ => ⟨S1x1x4096x1, .i1⟩
  | .hbm, ⟨48, _⟩ => ⟨S_, .f32⟩
  | .hbm, ⟨49, _⟩ => ⟨S_, .f32⟩
  | .hbm, ⟨50, _⟩ => ⟨S2x4x4096x4096, .i1⟩
  | .hbm, ⟨51, _⟩ => ⟨S2x4x4096x4096, .f32⟩
  | .hbm, ⟨52, _⟩ => ⟨S2x4x4096x4096, .f32⟩
  | .hbm, ⟨53, _⟩ => ⟨S2x4x64x4096, .f32⟩
  | .hbm, ⟨54, _⟩ => ⟨S2x4096x4x64, .f32⟩
  | .hbm, ⟨55, _⟩ => ⟨S2x4096x256, .f32⟩
  | .hbm, ⟨56, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.KernelIdeal.Halo.lean ====
/-
The halo exchange of one device, written down before it is run.

Every device holds two buffers of 512 rows, one for keys and one for values: rows 128–383 are its own 256 rows,
rows 0–127 are to be the last 128 rows of the device before it (`prv`), rows 384–511 the first 128 rows of the
device after it (`nxt`), the sixteen devices being a ring.

Per device there are nine semaphores.
* The barrier. The device waits on it for 2. One unit comes from `nxt`, which hands over its own rows 0–127 (of both
  buffers: the device will write them), one from `prv`, which hands over its rows 384–511.
* Four send semaphores, one per copy the device starts: keys to `nxt`, values to `nxt`, keys to `prv`, values to
  `prv`. Each gives back the half share of the source rows that the copy read.
* Four receive semaphores, for the four copies that arrive. Each hands over the rows that were filled, WITH their
  contents.

All contents are stated by one function per buffer, `kfull` and `vfull`: what the 512 rows hold once the exchange is
over. Every row range at every moment after the device's own rows are stored is held at that function.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The algebra of the exchange: rounds with duties named by `Bool`, beside the launch's own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring of sixteen devices -/

set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩
theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = prv c := Fin.ext (k0_dev5_eq c)
theorem dev6_eq (c : Dev nD) : (⟨k0_dev6 c, k0_dev6_lt c⟩ : Dev nD) = prv c := Fin.ext (k0_dev6_eq c)

def ring : Dev nD ≃ Dev nD := ⟨nxt, prv, prv_nxt, nxt_prv⟩

/-! ## Buffers, row ranges, semaphores -/

/-- The key buffer and the value buffer. -/
abbrev kM : Memref sig .tc .vmem S2x512x256 .bf16 := Memref.whole cc0_scratch0
abbrev vM : Memref sig .tc .vmem S2x512x256 .bf16 := Memref.whole cc0_scratch1

/-- Rows 0–127, 128–255, 256–383, 384–511, and the device's own rows 128–383. -/
abbrev rLo : Rect S2x512x256 := Rect.unit (s := S2x512x256) ![0, 0, 0] S2x128x256.size inb_S2x512x256_S2x128x256_0_0_0
abbrev rA : Rect S2x512x256 := Rect.unit (s := S2x512x256) ![0, 128, 0] S2x128x256.size inb_S2x512x256_S2x128x256_0_128_0
abbrev rB : Rect S2x512x256 := Rect.unit (s := S2x512x256) ![0, 256, 0] S2x128x256.size inb_S2x512x256_S2x128x256_0_256_0
abbrev rHi : Rect S2x512x256 := Rect.unit (s := S2x512x256) ![0, 384, 0] S2x128x256.size inb_S2x512x256_S2x128x256_0_384_0
abbrev rMid : Rect S2x512x256 := Rect.unit (s := S2x512x256) ![0, 128, 0] S2x256x256.size inb_S2x512x256_S2x256x256_0_128_0

theorem mem_rows {o n : ℕ} {h} {i : S2x512x256.Idx} :
    i ∈ (Rect.unit (s := S2x512x256) ![0, o, 0] ![2, n, 256] h).set ↔ o ≤ (i 1).val ∧ (i 1).val < o + n := by
  rw [Rect.mem_set_unit]
  constructor
  · intro H; exact H 1
  · intro H a
    have h0 : (i 0).val < 2 := (i 0).isLt
    have h2 : (i 2).val < 256 := (i 2).isLt
    match a with
    | 0 => exact ⟨Nat.zero_le _, by show (i 0).val < 0 + 2; omega⟩
    | 1 => exact H
    | 2 => exact ⟨Nat.zero_le _, by show (i 2).val < 0 + 256; omega⟩

/-- A box of 384 rows from row `o` lies in the rows from `o` on. -/
theorem mem_box {b o h : ℕ} {hb} {i : S2x512x256.Idx}
    (hi : i ∈ (Rect.unit (s := S2x512x256) ![b, o, h] S1x384x64.size hb).set) : o ≤ (i 1).val ∧ (i 1).val < o + 384 := by
  rw [Rect.mem_set_unit] at hi; exact hi 1

theorem mem_rLo {i : S2x512x256.Idx} : i ∈ rLo.set ↔ (i 1).val < 128 :=
  (mem_rows (o := 0) (n := 128)).trans (by omega)
theorem mem_rA {i : S2x512x256.Idx} : i ∈ rA.set ↔ 128 ≤ (i 1).val ∧ (i 1).val < 256 := mem_rows (o := 128) (n := 128)
theorem mem_rB {i : S2x512x256.Idx} : i ∈ rB.set ↔ 256 ≤ (i 1).val ∧ (i 1).val < 384 := mem_rows (o := 256) (n := 128)
theorem mem_rHi {i : S2x512x256.Idx} : i ∈ rHi.set ↔ 384 ≤ (i 1).val ∧ (i 1).val < 512 := mem_rows (o := 384) (n := 128)
theorem mem_rMid {i : S2x512x256.Idx} : i ∈ rMid.set ↔ 128 ≤ (i 1).val ∧ (i 1).val < 384 := mem_rows (o := 128) (n := 256)

theorem all_rows : rLo.set ∪ (rMid.set ∪ rHi.set) = Finset.univ := by
  ext (i : S2x512x256.Idx); have : (i 1).val < 512 := (i 1).isLt
  simp only [Finset.mem_union, mem_rLo, mem_rA, mem_rB, mem_rHi, mem_rMid, Finset.mem_univ, iff_true]; omega
theorem lo_disj : Disjoint rLo.set (rMid.set ∪ rHi.set) := by
  rw [Finset.disjoint_left]; intro (i : S2x512x256.Idx) h1 h2
  simp only [Finset.mem_union, mem_rLo, mem_rA, mem_rB, mem_rHi, mem_rMid] at h1 h2; omega
theorem mid_hi_disj : Disjoint rMid.set rHi.set := by
  rw [Finset.disjoint_left]; intro (i : S2x512x256.Idx) h1 h2
  simp only [mem_rLo, mem_rA, mem_rB, mem_rHi, mem_rMid] at h1 h2; omega
theorem lo_mid_disj : Disjoint rLo.set rMid.set := by
  rw [Finset.disjoint_left]; intro (i : S2x512x256.Idx) h1 h2
  simp only [mem_rLo, mem_rA, mem_rB, mem_rHi, mem_rMid] at h1 h2; omega
theorem lomid_hi_disj : Disjoint (rLo.set ∪ rMid.set) rHi.set := by
  rw [Finset.disjoint_left]; intro (i : S2x512x256.Idx) h1 h2
  simp only [Finset.mem_union, mem_rLo, mem_rA, mem_rB, mem_rHi, mem_rMid] at h1 h2; omega
theorem mid_rows : rA.set ∪ rB.set = rMid.set := by
  ext (i : S2x512x256.Idx); simp only [Finset.mem_union, mem_rLo, mem_rA, mem_rB, mem_rHi, mem_rMid]; omega
theorem a_b_disj : Disjoint rA.set rB.set := by
  rw [Finset.disjoint_left]; intro (i : S2x512x256.Idx) h1 h2
  simp only [mem_rLo, mem_rA, mem_rB, mem_rHi, mem_rMid] at h1 h2; omega

/-- The barrier semaphore; the send and the receive semaphore of copy `i`. -/
abbrev barS : Sem sig := (SemArray.scalar (sig.barrier 0 rfl) : Sems sig S_).sem
set_option backward.proofsInPublic true in
abbrev sndS (i : Fin 4) : DmaSem sig := ⟨6 + i.val, by have := i.isLt; show 6 + i.val < 14; omega⟩
set_option backward.proofsInPublic true in
abbrev rcvS (i : Fin 4) : DmaSem sig := ⟨10 + i.val, by have := i.isLt; show 10 + i.val < 14; omega⟩

theorem snd0 : ((cc0_scratch2.slice (Rect.unit (s := S4) ![0] ![1] inb_S4_S1_0)).squeeze S_ squeezes_S1_S_).sem = sndS 0 := rfl
theorem snd1 : ((cc0_scratch2.slice (Rect.unit (s := S4) ![1] ![1] inb_S4_S1_1)).squeeze S_ squeezes_S1_S_).sem = sndS 1 := rfl
theorem snd2 : ((cc0_scratch2.slice (Rect.unit (s := S4) ![2] ![1] inb_S4_S1_2)).squeeze S_ squeezes_S1_S_).sem = sndS 2 := rfl
theorem snd3 : ((cc0_scratch2.slice (Rect.unit (s := S4) ![3] ![1] inb_S4_S1_3)).squeeze S_ squeezes_S1_S_).sem = sndS 3 := rfl
theorem rcv0 : ((cc0_scratch3.slice (Rect.unit (s := S4) ![0] ![1] inb_S4_S1_0)).squeeze S_ squeezes_S1_S_).sem = rcvS 0 := rfl
theorem rcv1 : ((cc0_scratch3.slice (Rect.unit (s := S4) ![1] ![1] inb_S4_S1_1)).squeeze S_ squeezes_S1_S_).sem = rcvS 1 := rfl
theorem rcv2 : ((cc0_scratch3.slice (Rect.unit (s := S4) ![2] ![1] inb_S4_S1_2)).squeeze S_ squeezes_S1_S_).sem = rcvS 2 := rfl
theorem rcv3 : ((cc0_scratch3.slice (Rect.unit (s := S4) ![3] ![1] inb_S4_S1_3)).squeeze S_ squeezes_S1_S_).sem = rcvS 3 := rfl

abbrev barCell (c : Dev nD) : GSem nD τ sig := ((c : Thread nD τ), .reg barS)
abbrev sndCell (c : Dev nD) (i : Fin 4) : GSem nD τ sig := ((c : Thread nD τ), .dma (sndS i))
abbrev rcvCell (c : Dev nD) (i : Fin 4) : GSem nD τ sig := ((c : Thread nD τ), .dma (rcvS i))

/-- The device's own eight scratch semaphores, and all nine. -/
abbrev osem : Fin 8 → SemLoc sig := fun
  | 0 => .dma (sndS 0) | 1 => .dma (sndS 1) | 2 => .dma (sndS 2) | 3 => .dma (sndS 3)
  | 4 => .dma (rcvS 0) | 5 => .dma (rcvS 1) | 6 => .dma (rcvS 2) | 7 => .dma (rcvS 3)
abbrev csem : Fin 9 → SemLoc sig := fun
  | 0 => .reg barS
  | 1 => .dma (sndS 0) | 2 => .dma (sndS 1) | 3 => .dma (sndS 2) | 4 => .dma (sndS 3)
  | 5 => .dma (rcvS 0) | 6 => .dma (rcvS 1) | 7 => .dma (rcvS 2) | 8 => .dma (rcvS 3)
abbrev kcell (ck : Dev nD × Fin 9) : GSem nD τ sig := ((ck.1 : Thread nD τ), csem ck.2)

/-- What one copy of 128 rows credits. -/
abbrev N : ℕ := (kM.slice rLo (fun _ => rfl)).view.dmaCredit
theorem N_pos : 0 < N := View.dmaCredit_pos _ (by decide)

/-! ## Contents -/

/-- The five argument blocks as the kernel body finds them staged. -/
def xst (c : Dev nD) : (cc0_stg0_0 : Ref sig .tc).ty.Contents (Elt F) :=
  (win0_0.blk (0 : Fin 1)).view.read (Elt F) (m ((c : Thread nD τ).loc main_arg0))
def wqst (c : Dev nD) : (cc0_stg1_0 : Ref sig .tc).ty.Contents (Elt F) :=
  (win0_1.blk (0 : Fin 1)).view.read (Elt F) (m ((c : Thread nD τ).loc main_arg1))
def kst (c : Dev nD) : (cc0_stg2_0 : Ref sig .tc).ty.Contents (Elt F) :=
  (win0_2.blk (0 : Fin 1)).view.read (Elt F) (m ((c : Thread nD τ).loc main_arg2))
def vst (c : Dev nD) : (cc0_stg3_0 : Ref sig .tc).ty.Contents (Elt F) :=
  (win0_3.blk (0 : Fin 1)).view.read (Elt F) (m ((c : Thread nD τ).loc main_arg3))
def wost (c : Dev nD) : (cc0_stg4_0 : Ref sig .tc).ty.Contents (Elt F) :=
  (win0_4.blk (0 : Fin 1)).view.read (Elt F) (m ((c : Thread nD τ).loc main_arg4))

/-- The device's own keys and values as it stores them. -/
def kown (c : Dev nD) : FVec F S2x256x256 .bf16 := k0_pay2 (kst m c)
def vown (c : Dev nD) : FVec F S2x256x256 .bf16 := k0_pay4 (k0_pay3 (vst m c))

/-- The index of a 256-row array at `i`'s first and last coordinates and row `r`. -/
def atRow (i : S2x512x256.Idx) (r : ℕ) (h : r < 256) : S2x256x256.Idx := fun a => match a with
  | 0 => i 0
  | 1 => ⟨r, h⟩
  | 2 => i 2

/-- Three neighbouring 256-row arrays make the 512 rows: the last 128 of the first, the second, the first 128 of the
    third. -/
def halo (l o r : FVec F S2x256x256 .bf16) : FVec F S2x512x256 .bf16 := fun i =>
  if h1 : (i 1).val < 128 then l (atRow i ((i 1).val + 128) (by omega))
  else if h2 : (i 1).val < 384 then o (atRow i ((i 1).val - 128) (by omega))
  else r (atRow i ((i 1).val - 384) (by have : (i 1).val < 512 := (i 1).isLt; omega))

/-- What the key buffer and the value buffer of device `c` hold after the exchange. -/
def kfull (c : Dev nD) : FVec F S2x512x256 .bf16 := halo (kown m (prv c)) (kown m c) (kown m (nxt c))
def vfull (c : Dev nD) : FVec F S2x512x256 .bf16 := halo (vown m (prv c)) (vown m c) (vown m (nxt c))

/-- Rows `S` of the key buffer of device `c`, at share `q` and contents `f`; the value buffer's. -/
def kP (S : Finset S2x512x256.Idx) (q : PosShare TreeShare) (c : Dev nD) (f : FVec F S2x512x256 .bf16) : sProp 𝕄 :=
  kM.view.loc (c : Thread nD τ) ↦[S]{q} f
def vP (S : Finset S2x512x256.Idx) (q : PosShare TreeShare) (c : Dev nD) (f : FVec F S2x512x256 .bf16) : sProp 𝕄 :=
  vM.view.loc (c : Thread nD τ) ↦[S]{q} f

instance kP_storable (S q) (c : Dev nD) (f) : BI.Storable (upEmb : UEmb _ 𝕄) (kP (F := F) S q c f) := by unfold kP; infer_instance
instance vP_storable (S q) (c : Dev nD) (f) : BI.Storable (upEmb : UEmb _ 𝕄) (vP (F := F) S q c f) := by unfold vP; infer_instance

theorem set_slice_k (r : Rect S2x512x256) (h) : (kM.slice r h).view.set = r.set := View.set_slice_whole cc0_scratch0 r
theorem set_slice_v (r : Rect S2x512x256) (h) : (vM.slice r h).view.set = r.set := View.set_slice_whole cc0_scratch1 r

/-! ### The three writes of the exchange leave `halo`'s contents on the rows they touch -/

theorem halo_own (l o r f : FVec F S2x256x256 .bf16) (j : S2x256x256.Idx) : halo l o r (rMid.emb j) = o j := by
  have hj : (j 1).val < 256 := (j 1).isLt
  have e1 : ((rMid.emb j) 1).val = 128 + 1 * (j 1).val := rfl
  unfold halo
  rw [dif_neg (by omega), dif_pos (by omega)]
  congr 1; funext a
  match a with
  | 0 => exact Fin.ext (show 0 + 1 * (j 0).val = (j 0).val by omega)
  | 1 => exact Fin.ext (show ((rMid.emb j) 1).val - 128 = (j 1).val by omega)
  | 2 => exact Fin.ext (show 0 + 1 * (j 2).val = (j 2).val by omega)

/-- The last 128 own rows of a device are the first 128 rows of the next one's buffer. -/
theorem halo_up (l o r l' r' : FVec F S2x256x256 .bf16) (j : S2x128x256.Idx) :
    halo o l' r' (rLo.emb j) = halo l o r (rB.emb j) := by
  have hj : (j 1).val < 128 := (j 1).isLt
  have e1 : ((rLo.emb j) 1).val = 0 + 1 * (j 1).val := rfl
  have e2 : ((rB.emb j) 1).val = 256 + 1 * (j 1).val := rfl
  unfold halo
  rw [dif_pos (by omega), dif_neg (by omega), dif_pos (by omega)]
  congr 1; funext a
  match a with
  | 0 => rfl
  | 1 => exact Fin.ext (show ((rLo.emb j) 1).val + 128 = ((rB.emb j) 1).val - 128 by omega)
  | 2 => rfl

/-- The first 128 own rows of a device are the last 128 rows of the previous one's buffer. -/
theorem halo_down (l o r l' r' : FVec F S2x256x256 .bf16) (j : S2x128x256.Idx) :
    halo l' r' o (rHi.emb j) = halo l o r (rA.emb j) := by
  have hj : (j 1).val < 128 := (j 1).isLt
  have e1 : ((rHi.emb j) 1).val = 384 + 1 * (j 1).val := rfl
  have e2 : ((rA.emb j) 1).val = 128 + 1 * (j 1).val := rfl
  unfold halo
  rw [dif_neg (by omega), dif_neg (by omega), dif_neg (by omega), dif_pos (by omega)]
  congr 1; funext a
  match a with
  | 0 => rfl
  | 1 => exact Fin.ext (show ((rHi.emb j) 1).val - 384 = ((rA.emb j) 1).val - 128 by omega)
  | 2 => rfl

/-- A write of a whole rectangle of a whole buffer, on the rectangle: what was written. -/
theorem write_on {b : Ref sig .tc} (r : Rect b.ty.shape) (f g : b.ty.Contents (Elt F)) (w : r.shape.Idx → Elt F b.ty.elt)
    (h : ∀ j, g (r.emb j) = w j) : ∀ i ∈ r.set, ((View.whole b).slice r).write (Elt F) f w Finset.univ i = g i := by
  intro i hi
  rw [← Rect.map_emb_univ, Finset.mem_map] at hi
  obtain ⟨j, -, rfl⟩ := hi
  exact (View.write_emb_of_mem (v := (View.whole b).slice r) (f := f) w (Finset.mem_univ j)).trans (h j).symm

theorem store_k (c : Dev nD) (f : FVec F S2x512x256 .bf16) :
    (kM.view.loc (c : Thread nD τ) ↦[rMid.set]{fullShare} ((kM.access rMid).write (Elt F) f (k0_pay2 (kst m c)) Finset.univ) : sProp 𝕄)
      = kP rMid.set fullShare c (kfull m c) :=
  pointsTo_congr (write_on (b := cc0_scratch0) rMid f (kfull m c) _ fun j => halo_own _ _ _ (kown m c) j)
theorem store_v (c : Dev nD) (f : FVec F S2x512x256 .bf16) :
    (vM.view.loc (c : Thread nD τ) ↦[rMid.set]{fullShare} ((vM.access rMid).write (Elt F) f (k0_pay4 (k0_pay3 (vst m c))) Finset.univ) : sProp 𝕄)
      = vP rMid.set fullShare c (vfull m c) :=
  pointsTo_congr (write_on (b := cc0_scratch1) rMid f (vfull m c) _ fun j => halo_own _ _ _ (vown m c) j)

theorem land_k_up (c : Dev nD) (f : FVec F S2x512x256 .bf16) :
    (kM.view.loc (nxt c : Thread nD τ) ↦[rLo.set]{fullShare} ((kM.slice rLo (fun _ => rfl)).view.write (Elt F) f
        ((kM.slice rB (fun _ => rfl)).view.read (Elt F) (kfull m c)) Finset.univ) : sProp 𝕄)
      = kP rLo.set fullShare (nxt c) (kfull m (nxt c)) :=
  pointsTo_congr (write_on (b := cc0_scratch0) rLo f (kfull m (nxt c)) _ fun j => by
    unfold kfull; rw [prv_nxt]; exact halo_up _ _ _ _ _ j)
theorem land_v_up (c : Dev nD) (f : FVec F S2x512x256 .bf16) :
    (vM.view.loc (nxt c : Thread nD τ) ↦[rLo.set]{fullShare} ((vM.slice rLo (fun _ => rfl)).view.write (Elt F) f
        ((vM.slice rB (fun _ => rfl)).view.read (Elt F) (vfull m c)) Finset.univ) : sProp 𝕄)
      = vP rLo.set fullShare (nxt c) (vfull m (nxt c)) :=
  pointsTo_congr (write_on (b := cc0_scratch1) rLo f (vfull m (nxt c)) _ fun j => by
    unfold vfull; rw [prv_nxt]; exact halo_up _ _ _ _ _ j)
theorem land_k_down (c : Dev nD) (f : FVec F S2x512x256 .bf16) :
    (kM.view.loc (prv c : Thread nD τ) ↦[rHi.set]{fullShare} ((kM.slice rHi (fun _ => rfl)).view.write (Elt F) f
        ((kM.slice rA (fun _ => rfl)).view.read (Elt F) (kfull m c)) Finset.univ) : sProp 𝕄)
      = kP rHi.set fullShare (prv c) (kfull m (prv c)) :=
  pointsTo_congr (write_on (b := cc0_scratch0) rHi f (kfull m (prv c)) _ fun j => by
    unfold kfull; rw [nxt_prv]; exact halo_down _ _ _ _ _ j)
theorem land_v_down (c : Dev nD) (f : FVec F S2x512x256 .bf16) :
    (vM.view.loc (prv c : Thread nD τ) ↦[rHi.set]{fullShare} ((vM.slice rHi (fun _ => rfl)).view.write (Elt F) f
        ((vM.slice rA (fun _ => rfl)).view.read (Elt F) (vfull m c)) Finset.univ) : sProp 𝕄)
      = vP rHi.set fullShare (prv c) (vfull m (prv c)) :=
  pointsTo_congr (write_on (b := cc0_scratch1) rHi f (vfull m (prv c)) _ fun j => by
    unfold vfull; rw [nxt_prv]; exact halo_down _ _ _ _ _ j)

/-! ### Cutting and joining row ranges and shares -/

section Cut
variable {ℓ : Loc nD τ sig} {A B C : Finset (Idx ℓ)} {q : PosShare TreeShare} {f : Buf (Elt F) ℓ}

theorem cut3 (h : A ∪ (B ∪ C) = Finset.univ) (hA : Disjoint A (B ∪ C)) (hB : Disjoint B C) :
    (ℓ ↦{q} f : sProp 𝕄) ⊣⊢ iprop((ℓ ↦[A]{q} f) ∗ (ℓ ↦[B]{q} f) ∗ (ℓ ↦[C]{q} f)) := by
  rw [← h]
  exact (pointsTo_union hA).trans ⟨sep_mono_right (pointsTo_union hB).1, sep_mono_right (pointsTo_union hB).2⟩

theorem halves : (ℓ ↦[A]{fullShare} f : sProp 𝕄) ⊣⊢ iprop((ℓ ↦[A]{fullShare.left} f) ∗ (ℓ ↦[A]{fullShare.right} f)) :=
  pointsTo_share (PosShare.mem_left_op_right fullShare)
end Cut

theorem k_cut (q) (c : Dev nD) (f : FVec F S2x512x256 .bf16) :
    (kP Finset.univ q c f : sProp 𝕄) ⊣⊢ iprop(kP rLo.set q c f ∗ kP rMid.set q c f ∗ kP rHi.set q c f) :=
  cut3 (ℓ := kM.view.loc (c : Thread nD τ)) all_rows lo_disj mid_hi_disj
theorem v_cut (q) (c : Dev nD) (f : FVec F S2x512x256 .bf16) :
    (vP Finset.univ q c f : sProp 𝕄) ⊣⊢ iprop(vP rLo.set q c f ∗ vP rMid.set q c f ∗ vP rHi.set q c f) :=
  cut3 (ℓ := vM.view.loc (c : Thread nD τ)) all_rows lo_disj mid_hi_disj
theorem k_mid (q) (c : Dev nD) (f : FVec F S2x512x256 .bf16) :
    (kP rMid.set q c f : sProp 𝕄) ⊣⊢ iprop(kP rA.set q c f ∗ kP rB.set q c f) := by
  rw [← mid_rows]; exact pointsTo_union (ℓ := kM.view.loc (c : Thread nD τ)) a_b_disj
theorem v_mid (q) (c : Dev nD) (f : FVec F S2x512x256 .bf16) :
    (vP rMid.set q c f : sProp 𝕄) ⊣⊢ iprop(vP rA.set q c f ∗ vP rB.set q c f) := by
  rw [← mid_rows]; exact pointsTo_union (ℓ := vM.view.loc (c : Thread nD τ)) a_b_disj
theorem k_lomid (q) (c : Dev nD) (f : FVec F S2x512x256 .bf16) :
    (kP (rLo.set ∪ rMid.set) q c f : sProp 𝕄) ⊣⊢ iprop(kP rLo.set q c f ∗ kP rMid.set q c f) :=
  pointsTo_union (ℓ := kM.view.loc (c : Thread nD τ)) lo_mid_disj
theorem v_lomid (q) (c : Dev nD) (f : FVec F S2x512x256 .bf16) :
    (vP (rLo.set ∪ rMid.set) q c f : sProp 𝕄) ⊣⊢ iprop(vP rLo.set q c f ∗ vP rMid.set q c f) :=
  pointsTo_union (ℓ := vM.view.loc (c : Thread nD τ)) lo_mid_disj
theorem k_all (q) (c : Dev nD) (f : FVec F S2x512x256 .bf16) :
    (kP Finset.univ q c f : sProp 𝕄) ⊣⊢ iprop(kP (rLo.set ∪ rMid.set) q c f ∗ kP rHi.set q c f) := by
  rw [← all_rows, ← Finset.union_assoc]; exact pointsTo_union (ℓ := kM.view.loc (c : Thread nD τ)) lomid_hi_disj
theorem v_all (q) (c : Dev nD) (f : FVec F S2x512x256 .bf16) :
    (vP Finset.univ q c f : sProp 𝕄) ⊣⊢ iprop(vP (rLo.set ∪ rMid.set) q c f ∗ vP rHi.set q c f) := by
  rw [← all_rows, ← Finset.union_assoc]; exact pointsTo_union (ℓ := vM.view.loc (c : Thread nD τ)) lomid_hi_disj
theorem k_halves (S) (c : Dev nD) (f : FVec F S2x512x256 .bf16) :
    (kP S fullShare c f : sProp 𝕄) ⊣⊢ iprop(kP S fullShare.left c f ∗ kP S fullShare.right c f) :=
  halves (ℓ := kM.view.loc (c : Thread nD τ))
theorem v_halves (S) (c : Dev nD) (f : FVec F S2x512x256 .bf16) :
    (vP S fullShare c f : sProp 𝕄) ⊣⊢ iprop(vP S fullShare.left c f ∗ vP S fullShare.right c f) :=
  halves (ℓ := vM.view.loc (c : Thread nD τ))

/-! ## The schedule -/

/-- What comes back with copy `i`'s send semaphore: the half share of the rows it read. -/
def sndPay (i : Fin 4) (c : Dev nD) : sProp 𝕄 := match i with
  | 0 => kP rB.set fullShare.right c (kfull m c)
  | 1 => vP rB.set fullShare.right c (vfull m c)
  | 2 => kP rA.set fullShare.right c (kfull m c)
  | 3 => vP rA.set fullShare.right c (vfull m c)
/-- What arrives with copy `i`'s receive semaphore: the rows it filled. -/
def rcvPay (i : Fin 4) (c : Dev nD) : sProp 𝕄 := match i with
  | 0 => kP rLo.set fullShare c (kfull m c)
  | 1 => vP rLo.set fullShare c (vfull m c)
  | 2 => kP rHi.set fullShare c (kfull m c)
  | 3 => vP rHi.set fullShare c (vfull m c)
/-- What `nxt d` hands device `d` at the barrier (its rows 0–127, and that its receive cells 0 and 1 are at round 0);
    what `prv d` hands it (its rows 384–511, receive cells 2 and 3). -/
def barPayT (d : Dev nD) : sProp 𝕄 :=
  iprop((∃ f, kP rLo.set fullShare (nxt d) f) ∗ (∃ f, vP rLo.set fullShare (nxt d) f)
    ∗ reached ER (rcvCell (nxt d) 0) 0 ∗ reached ER (rcvCell (nxt d) 1) 0)
def barPayF (d : Dev nD) : sProp 𝕄 :=
  iprop((∃ f, kP rHi.set fullShare (prv d) f) ∗ (∃ f, vP rHi.set fullShare (prv d) f)
    ∗ reached ER (rcvCell (prv d) 2) 0 ∗ reached ER (rcvCell (prv d) 3) 0)

abbrev IsBar (g : GSem nD τ sig) : Prop := g.1.2 = .tc ∧ g.2 = .reg barS
abbrev IsCopy (g : GSem nD τ sig) : Prop := g.1.2 = .tc ∧ ((∃ i, g.2 = .dma (sndS i)) ∨ ∃ i, g.2 = .dma (rcvS i))

/-- The payload of a semaphore of device `c`. -/
def payOf (c : Dev nD) (s : SemLoc sig) (d : Bool) : sProp 𝕄 :=
  if s = .reg barS then (if d then barPayT c else barPayF c)
  else if s = .dma (sndS 0) then sndPay m 0 c
  else if s = .dma (sndS 1) then sndPay m 1 c
  else if s = .dma (sndS 2) then sndPay m 2 c
  else if s = .dma (sndS 3) then sndPay m 3 c
  else if s = .dma (rcvS 0) then rcvPay m 0 c
  else if s = .dma (rcvS 1) then rcvPay m 1 c
  else if s = .dma (rcvS 2) then rcvPay m 2 c
  else if s = .dma (rcvS 3) then rcvPay m 3 c
  else iprop(emp)

def sched : Rounds.Schedule (GSem nD τ sig) Bool 𝕄 where
  duties g r := if r = 0 ∧ IsBar g then Finset.univ else if r = 0 ∧ IsCopy g then {false} else ∅
  unitless _ := False
  amount g _ _ := if g.2 = .reg barS then 1 else N
  payload g _ d := payOf m g.1.1 g.2 d
  amount_pos g _ _ _ := by
    by_cases h : g.2 = .reg barS
    · rw [if_pos h]; exact Nat.one_pos
    · rw [if_neg h]; exact N_pos

instance sndPay_storable (i) (c : Dev nD) : BI.Storable (upEmb : UEmb _ 𝕄) (sndPay (F := F) m i c) := by
  unfold sndPay; split <;> infer_instance
instance rcvPay_storable (i) (c : Dev nD) : BI.Storable (upEmb : UEmb _ 𝕄) (rcvPay (F := F) m i c) := by
  unfold rcvPay; split <;> infer_instance
instance payOf_storable (c : Dev nD) (s d) : BI.Storable (upEmb : UEmb _ 𝕄) (payOf (F := F) m c s d) := by
  unfold payOf barPayT barPayF
  (repeat' split) <;> infer_instance
instance sched_storable (g : GSem nD τ sig) (r : ℕ) (d : Bool) : BI.Storable (upEmb : UEmb _ 𝕄) ((sched (F := F) m).payload g r d) := by
  show BI.Storable upEmb (payOf m g.1.1 g.2 d); infer_instance

/-- A DMA semaphore of the exchange. -/
def IsX (q : DmaSem sig) : Prop := (∃ i, q = sndS i) ∨ ∃ i, q = rcvS i
theorem isX_s (i : Fin 4) : IsX (sndS i) := .inl ⟨i, rfl⟩
theorem isX_r (i : Fin 4) : IsX (rcvS i) := .inr ⟨i, rfl⟩

section Sched
variable (c : Dev nD)

theorem duties_bar : (sched (F := F) m).duties (barCell c) 0 = Finset.univ := by dsimp only [sched]; exact if_pos ⟨rfl, rfl, rfl⟩
theorem duties_x (q : DmaSem sig) (hq : IsX q) : (sched (F := F) m).duties ((c : Thread nD τ), .dma q) 0 = {false} := by
  dsimp only [sched]; rw [if_neg (fun h => by cases h.2.2)]
  refine if_pos ⟨rfl, rfl, ?_⟩
  rcases hq with ⟨i, rfl⟩ | ⟨i, rfl⟩
  · exact .inl ⟨i, rfl⟩
  · exact .inr ⟨i, rfl⟩
theorem duties_later (g : GSem nD τ sig) : ∀ r, 1 ≤ r → (sched (F := F) m).duties g r = ∅ :=
  fun r hr => by dsimp only [sched]; rw [if_neg fun h => by omega, if_neg fun h => by omega]
theorem mem_duties_bar (d : Bool) : d ∈ (sched (F := F) m).duties (barCell c) 0 := by rw [duties_bar]; exact Finset.mem_univ _
theorem mem_duties_x (q : DmaSem sig) (hq : IsX q) : false ∈ (sched (F := F) m).duties ((c : Thread nD τ), .dma q) 0 := by
  rw [duties_x m c q hq]; exact Finset.mem_singleton_self _

theorem amount_bar (d : Bool) : (sched (F := F) m).amount (barCell c) 0 d = 1 := by dsimp only [sched]; exact if_pos rfl
theorem amount_x (q : DmaSem sig) (d : Bool) : (sched (F := F) m).amount ((c : Thread nD τ), .dma q) 0 d = N := by
  dsimp only [sched]; exact if_neg (fun h => by cases h)

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_x (q : DmaSem sig) (hq : IsX q) : (sched (F := F) m).expect ((c : Thread nD τ), .dma q) 0 = N := by
  unfold Schedule.expect Schedule.amountOf; rw [duties_x m c q hq, Finset.sum_singleton, amount_x]

theorem pay_bar_true : (sched (F := F) m).payload (barCell c) 0 true = barPayT c := by
  dsimp only [sched]; unfold payOf; rw [if_pos rfl, if_pos rfl]
theorem pay_bar_false : (sched (F := F) m).payload (barCell c) 0 false = barPayF c := by
  dsimp only [sched]; unfold payOf; rw [if_pos rfl]; exact if_neg Bool.false_ne_true
theorem pay_snd (i : Fin 4) (d : Bool) : (sched (F := F) m).payload (sndCell c i) 0 d = sndPay m i c := by
  dsimp only [sched]; unfold payOf
  rw [if_neg (fun h => by cases h)]
  match i with
  | 0 => rw [if_pos rfl]
  | 1 => rw [if_neg (by decide), if_pos rfl]
  | 2 => rw [if_neg (by decide), if_neg (by decide), if_pos rfl]
  | 3 => rw [if_neg (by decide), if_neg (by decide), if_neg (by decide), if_pos rfl]
theorem pay_rcv (i : Fin 4) (d : Bool) : (sched (F := F) m).payload (rcvCell c i) 0 d = rcvPay m i c := by
  dsimp only [sched]; unfold payOf
  rw [if_neg (fun h => by cases h)]
  match i with
  | 0 => rw [if_neg (by decide), if_neg (by decide), if_neg (by decide), if_neg (by decide), if_pos rfl]
  | 1 => rw [if_neg (by decide), if_neg (by decide), if_neg (by decide), if_neg (by decide), if_neg (by decide), if_pos rfl]
  | 2 => rw [if_neg (by decide), if_neg (by decide), if_neg (by decide), if_neg (by decide), if_neg (by decide), if_neg (by decide), if_pos rfl]
  | 3 => rw [if_neg (by decide), if_neg (by decide), if_neg (by decide), if_neg (by decide), if_neg (by decide), if_neg (by decide),
      if_neg (by decide), if_pos rfl]

theorem rest_bar : bigSep ((sched (F := F) m).duties (barCell c) 0 \ ∅) (fun d => (sched (F := F) m).payload (barCell c) 0 d)
    = iprop(barPayF c ∗ barPayT c) := by
  rw [Finset.sdiff_empty, duties_bar, bigSep_univ_eq_bigSepL [false, true] (by decide) (by decide), bigSepL_cons_cons, bigSepL_singleton,
    pay_bar_false, pay_bar_true]
  rfl
theorem rest_x (q : DmaSem sig) (hq : IsX q) :
    bigSep ((sched (F := F) m).duties ((c : Thread nD τ), .dma q) 0 \ ∅) (fun d => (sched (F := F) m).payload ((c : Thread nD τ), .dma q) 0 d)
      = (sched (F := F) m).payload ((c : Thread nD τ), .dma q) 0 false := by
  rw [Finset.sdiff_empty, duties_x m c q hq, bigSep_singleton]

end Sched

/-! ## What a device owes at the start, and why no wait can block for ever -/

/-- What device `c` still owes before copy 3, before copy 2, before copy 1, before copy 0 (its four copies' credit at the
    receiving semaphores), before its second signal, and at the start. -/
def owe3 (c : Dev nD) : CellTallies nD τ sig Unit := tallyAt (rcvCell (prv c) 3) () N
def owe2 (c : Dev nD) : CellTallies nD τ sig Unit := owe3 c + tallyAt (rcvCell (prv c) 2) () N
def owe1 (c : Dev nD) : CellTallies nD τ sig Unit := owe2 c + tallyAt (rcvCell (nxt c) 1) () N
def owe0 (c : Dev nD) : CellTallies nD τ sig Unit := owe1 c + tallyAt (rcvCell (nxt c) 0) () N
def oweN (c : Dev nD) : CellTallies nD τ sig Unit := owe0 c + tallyAt (barCell (nxt c)) () 1
def oweS (c : Dev nD) : CellTallies nD τ sig Unit := oweN c + tallyAt (barCell (prv c)) () 1

/-- Levels: receive semaphores above the barrier above everything else. A device at its barrier owes only copies. -/
def L (g : GSem nD τ sig) : Finset Unit := if g.1.2 = .tc then {()} else ∅
def lv (g : GSem nD τ sig) (_ : Unit) : ℕ := if g.2 = .reg barS then 1 else if ∃ i, g.2 = .dma (rcvS i) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_rcv (c : Dev nD) (i : Fin 4) (u : Unit) : lv (rcvCell c i) u = 2 := by
  unfold lv; rw [if_neg (fun h => by cases h), if_pos ⟨i, rfl⟩]

theorem owe0_pos {c : Dev nD} {g : GSem nD τ sig} {u : Unit} (h : 0 < owe0 c g u) : ∃ d i, g = rcvCell d i := by
  unfold owe0 owe1 owe2 owe3 at h
  simp only [Pi.add_apply, Finsupp.add_apply, tallyAt_apply] at h
  by_contra hn; push Not at hn
  rw [if_neg (fun h' => hn _ _ h'.1), if_neg (fun h' => hn _ _ h'.1), if_neg (fun h' => hn _ _ h'.1), if_neg (fun h' => hn _ _ h'.1)] at h
  exact Nat.lt_irrefl 0 h
theorem oweS_pos {c : Dev nD} {g : GSem nD τ sig} {u : Unit} (h : 0 < oweS c g u) : (∃ d i, g = rcvCell d i) ∨ ∃ d, g = barCell d := by
  unfold oweS oweN at h
  rw [Pi.add_apply, Finsupp.add_apply, Pi.add_apply, Finsupp.add_apply, tallyAt_apply, tallyAt_apply] at h
  by_contra hn; rw [not_or] at hn
  obtain ⟨h1, h2⟩ := hn; push Not at h2
  rw [if_neg (fun h' => h2 _ h'.1), if_neg (fun h' => h2 _ h'.1)] at h
  simp only [Nat.add_zero] at h
  exact h1 (owe0_pos h)

theorem mayWait_stage (c : Dev nD) (q : DmaSem sig) (hq : ¬ ∃ i, SemLoc.dma q = (.dma (rcvS i) : SemLoc sig)) (O : CellTallies nD τ sig Unit)
    (hO : O = oweS c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweS_pos hg with ⟨d, i, rfl⟩ | ⟨d, rfl⟩ <;> exact Finset.mem_singleton_self _)
      (fun p hp => by rw [Finset.mem_singleton.mp hp]; dsimp only [lv]; rw [if_neg (fun h => by cases h), if_neg hq])
      (fun g u hg => by
        rcases oweS_pos hg with ⟨d, i, rfl⟩ | ⟨d, rfl⟩
        · rw [lv_rcv]; decide
        · rw [lv_bar]; decide)
  · rw [MayWait_zero]; iintro -; iempintro

theorem mayWait_bar (c : Dev nD) : (levAts L lv : sProp 𝕄) ⊢ MayWait (c : Thread nD τ) (.reg barS) () (owe0 c) :=
  MayOwe.of_cut (L := L) (lev := lv) 1 (fun p hp => by rw [Finset.mem_singleton.mp hp, L_tc]; exact Finset.mem_singleton_self _)
    (fun g u hg => by obtain ⟨d, i, rfl⟩ := owe0_pos hg; exact Finset.mem_singleton_self _)
    (fun p hp => by rw [Finset.mem_singleton.mp hp]; exact le_of_eq (lv_bar c _))
    (fun g u hg => by obtain ⟨d, i, rfl⟩ := owe0_pos hg; rw [lv_rcv]; decide)

end Cert.KernelIdeal.Halo

end
-- ==== Proof.KernelIdeal.Body.lean ====
/-
One run of the kernel body on one device `c`, every effect in program order: what it holds before, what after, and what
it writes to its output block (`outAt`).
-/
module

public import proofs.«01_k».proof.Proof.KernelIdeal.Halo

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the body writes -/

/-- The 384 rows from row `o` of head column block `h` (64 wide) of batch `b`, of the key and of the value buffer. -/
abbrev boxOf (b o h : ℕ) (hb : ∀ a, (![b, o, h] : Fin 3 → ℕ) a + S1x384x64.size a ≤ S2x512x256.size a) : Rect S2x512x256 :=
  Rect.unit (s := S2x512x256) ![b, o, h] S1x384x64.size hb
abbrev kA (c : Dev nD) (b o h : ℕ) (hb : ∀ a, (![b, o, h] : Fin 3 → ℕ) a + S1x384x64.size a ≤ S2x512x256.size a) : Vec F S1x384x64 .bf16 :=
  kM.view.readAt (Elt F) (boxOf b o h hb).toLoadRect (kfull m c)
abbrev vA (c : Dev nD) (b o h : ℕ) (hb : ∀ a, (![b, o, h] : Fin 3 → ℕ) a + S1x384x64.size a ≤ S2x512x256.size a) : Vec F S1x384x64 .bf16 :=
  vM.view.readAt (Elt F) (boxOf b o h hb).toLoadRect (vfull m c)

/-- The device's number on the ring as the kernel computes it. -/
abbrev meW (c : Dev nD) : BitVec 32 := Scalar.remsi (Scalar.divsi (Dev.word c) 1#32) 16#32
/-- The queries, and the masks added to the scores of the first and of the second 128 rows. -/
def qAll (c : Dev nD) : FVec F S512x256 .bf16 := k0_pay5 (wqst m c) (xst m c)
def biasLo (c : Dev nD) : FVec F S128x384 .f32 := k0_pay10 (k0_pay7 (meW c)) k0_pay8 k0_pay9
def biasHi (c : Dev nD) : FVec F S128x384 .f32 := k0_pay11 (meW c)

/-- The four heads of batch 0, first 128 rows; of batch 1, first 128 rows; of batch 0, last 128 rows. -/
def ctx00 (c : Dev nD) : FVec F S128x256 .f32 :=
  k0_pay19 (biasLo c)
    (k0_pay15 (biasLo c) (k0_pay12 (qAll m c)) (k0_pay13 (kA m c 0 0 0 inb_S2x512x256_S1x384x64_0_0_0)) (k0_pay14 (vA m c 0 0 0 inb_S2x512x256_S1x384x64_0_0_0)) (constant S128x384 .f32 0x00000000#32))
    (k0_pay16 (qAll m c) (biasLo c) (kA m c 0 0 64 inb_S2x512x256_S1x384x64_0_0_64) (vA m c 0 0 64 inb_S2x512x256_S1x384x64_0_0_64))
    (k0_pay17 (qAll m c) (biasLo c) (kA m c 0 0 128 inb_S2x512x256_S1x384x64_0_0_128) (vA m c 0 0 128 inb_S2x512x256_S1x384x64_0_0_128))
    (k0_pay18 (qAll m c)) (kA m c 0 0 192 inb_S2x512x256_S1x384x64_0_0_192) (vA m c 0 0 192 inb_S2x512x256_S1x384x64_0_0_192)
def ctx10 (c : Dev nD) : FVec F S128x256 .f32 :=
  k0_pay23 (qAll m c) (biasLo c)
    (k0_pay20 (qAll m c) (biasLo c) (kA m c 1 0 0 inb_S2x512x256_S1x384x64_1_0_0) (vA m c 1 0 0 inb_S2x512x256_S1x384x64_1_0_0))
    (k0_pay21 (vA m c 1 0 64 inb_S2x512x256_S1x384x64_1_0_64)) (k0_pay22 (qAll m c) (biasLo c) (kA m c 1 0 64 inb_S2x512x256_S1x384x64_1_0_64))
    (kA m c 1 0 128 inb_S2x512x256_S1x384x64_1_0_128) (vA m c 1 0 128 inb_S2x512x256_S1x384x64_1_0_128)
    (kA m c 1 0 192 inb_S2x512x256_S1x384x64_1_0_192) (vA m c 1 0 192 inb_S2x512x256_S1x384x64_1_0_192)
def ctx01 (c : Dev nD) : FVec F S128x256 .f32 :=
  k0_pay30 (qAll m c) (biasHi c)
    (k0_pay25 (biasHi c) (k0_pay24 (qAll m c)) (kA m c 0 128 0 inb_S2x512x256_S1x384x64_0_128_0) (vA m c 0 128 0 inb_S2x512x256_S1x384x64_0_128_0))
    (k0_pay26 (qAll m c) (biasHi c) (kA m c 0 128 64 inb_S2x512x256_S1x384x64_0_128_64) (vA m c 0 128 64 inb_S2x512x256_S1x384x64_0_128_64))
    (k0_pay27 (vA m c 0 128 128 inb_S2x512x256_S1x384x64_0_128_128)) (k0_pay28 (qAll m c) (biasHi c) (kA m c 0 128 128 inb_S2x512x256_S1x384x64_0_128_128))
    (k0_pay29 (qAll m c) (biasHi c) (kA m c 0 128 128 inb_S2x512x256_S1x384x64_0_128_128))
    (kA m c 0 128 192 inb_S2x512x256_S1x384x64_0_128_192) (vA m c 0 128 192 inb_S2x512x256_S1x384x64_0_128_192)

/-- What the body writes to the output block: with the four heads of batch 1, last 128 rows. -/
def outAt (c : Dev nD) : (cc0_stg5_0 : Ref sig .tc).ty.Contents (Elt F) :=
  k0_pay1 (ctx00 m c) (ctx10 m c) (ctx01 m c)
    (k0_pay31 (qAll m c) (biasHi c) (kA m c 1 128 0 inb_S2x512x256_S1x384x64_1_128_0) (vA m c 1 128 0 inb_S2x512x256_S1x384x64_1_128_0))
    (k0_pay34 (biasHi c) (k0_pay32 (qAll m c)) (k0_pay33 (kA m c 1 128 64 inb_S2x512x256_S1x384x64_1_128_64)) (vA m c 1 128 64 inb_S2x512x256_S1x384x64_1_128_64))
    (k0_pay35 (qAll m c) (biasHi c) (kA m c 1 128 128 inb_S2x512x256_S1x384x64_1_128_128) (vA m c 1 128 128 inb_S2x512x256_S1x384x64_1_128_128))
    (k0_pay37 (qAll m c) (biasHi c) (kA m c 1 128 192 inb_S2x512x256_S1x384x64_1_128_192) (vA m c 1 128 192 inb_S2x512x256_S1x384x64_1_128_192))
    (k0_pay38 (qAll m c) (biasHi c) (kA m c 1 128 192 inb_S2x512x256_S1x384x64_1_128_192))
    (wost m c)

/-! ## What the body starts from and ends with -/

variable (K : Dev nD × Fin 9 → ℕ)

/-- Every device's nine cells, each at its name and at round 0. -/
def records : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent : BI.Persistent (records m K) := by unfold records; infer_instance

theorem inv_of (ck : Dev nD × Fin 9) :
    (bigSep Finset.univ fun ck : Dev nD × Fin 9 => (cellInv ER (sched m) (K ck) (kcell ck) : sProp 𝕄)) ⊢ cellInv ER (sched m) (K ck) (kcell ck) :=
  bigSep_elim (Finset.mem_univ ck)
theorem reached_of (ck : Dev nD × Fin 9) :
    (bigSep Finset.univ fun ck : Dev nD × Fin 9 => (reached ER (kcell ck) 0 : sProp 𝕄)) ⊢ reached ER (kcell ck) 0 :=
  bigSep_elim (Finset.mem_univ ck)
theorem inv_at (ck : Dev nD × Fin 9) : (records m K : sProp 𝕄) ⊢ cellInv ER (sched m) (K ck) (kcell ck) := by
  unfold records; iintro ⟨H, -⟩; iapply (inv_of m K ck); iexact H
theorem reached_at (ck : Dev nD × Fin 9) : (records m K : sProp 𝕄) ⊢ reached ER (kcell ck) 0 := by
  unfold records; iintro ⟨-, H⟩; iapply (reached_of ck); iexact H

/-- A device's positions at its own nine cells, and the tokens of the ten duties it pays. -/
def linear (c : Dev nD) : sProp 𝕄 :=
  iprop((atPos ER (barCell c) 0 ∅ 0
      ∗ (atPos ER (sndCell c 0) 0 ∅ 0 ∗ atPos ER (sndCell c 1) 0 ∅ 0 ∗ atPos ER (sndCell c 2) 0 ∅ 0 ∗ atPos ER (sndCell c 3) 0 ∅ 0)
      ∗ (atPos ER (rcvCell c 0) 0 ∅ 0 ∗ atPos ER (rcvCell c 1) 0 ∅ 0 ∗ atPos ER (rcvCell c 2) 0 ∅ 0 ∗ atPos ER (rcvCell c 3) 0 ∅ 0))
    ∗ (dutyTok ER (barCell (prv c)) 0 true ∗ dutyTok ER (barCell (nxt c)) 0 false)
    ∗ (dutyTok ER (sndCell c 0) 0 false ∗ dutyTok ER (sndCell c 1) 0 false ∗ dutyTok ER (sndCell c 2) 0 false ∗ dutyTok ER (sndCell c 3) 0 false)
    ∗ (dutyTok ER (rcvCell (nxt c) 0) 0 false ∗ dutyTok ER (rcvCell (nxt c) 1) 0 false
      ∗ dutyTok ER (rcvCell (prv c) 2) 0 false ∗ dutyTok ER (rcvCell (prv c) 3) 0 false))

def ghost (c : Dev nD) : sProp 𝕄 := iprop(records m K ∗ linear c)

/-- The credits for what the device waits on: two units at the barrier, one copy at each receive cell. -/
def credits (c : Dev nD) : sProp 𝕄 :=
  iprop(cred (tallyAt (barCell c) () 2) ∗ cred (tallyAt (rcvCell c 0) () N) ∗ cred (tallyAt (rcvCell c 1) () N)
    ∗ cred (tallyAt (rcvCell c 2) () N) ∗ cred (tallyAt (rcvCell c 3) () N))

def start (c : Dev nD) : sProp 𝕄 := iprop((∃ K, ghost m K c) ∗ credits c ∗ levAts L lv)

/-- Before the body: with both buffers at any contents. -/
def Φ₀ (c : Dev nD) : sProp 𝕄 := iprop(start m c ∗ (∃ f, kP Finset.univ fullShare c f) ∗ ∃ f, vP Finset.univ fullShare c f)

/-- The eight scratch semaphores at zero. -/
def zeros (c : Dev nD) : sProp 𝕄 :=
  iprop(semVal (sndCell c 0) 0 ∗ semVal (sndCell c 1) 0 ∗ semVal (sndCell c 2) 0 ∗ semVal (sndCell c 3) 0
    ∗ semVal (rcvCell c 0) 0 ∗ semVal (rcvCell c 1) 0 ∗ semVal (rcvCell c 2) 0 ∗ semVal (rcvCell c 3) 0)

/-- After it: both buffers full, all nine semaphores at zero. -/
def Φ₁ (c : Dev nD) : sProp 𝕄 :=
  iprop((kP Finset.univ fullShare c (kfull m c) ∗ vP Finset.univ fullShare c (vfull m c)) ∗ semVal (barCell c) 0 ∗ zeros c)

def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => wqst m c
    | ⟨2, _⟩ => kst m c
    | ⟨3, _⟩ => vst m c
    | ⟨4, _⟩ => wost m c
    | ⟨5, _⟩ => outAt m c
  Φ t := match t with
    | ⟨0, _⟩ => Φ₀ m c
    | ⟨_ + 1, _⟩ => Φ₁ m c
  q _ := fullShare
  owed t := match t with
    | ⟨0, _⟩ => oweS c
    | ⟨_ + 1, _⟩ => 0

abbrev 𝒱₀ : Variants := Variants.none

theorem fetch_0 (t : Fin cfg0.N) : (cfg0.win (0 : Fin 6)).fetch t = true := by rw [fin_N t]; rfl
theorem fetch_1 (t : Fin cfg0.N) : (cfg0.win (1 : Fin 6)).fetch t = true := by rw [fin_N t]; rfl
theorem fetch_2 (t : Fin cfg0.N) : (cfg0.win (2 : Fin 6)).fetch t = true := by rw [fin_N t]; rfl
theorem fetch_3 (t : Fin cfg0.N) : (cfg0.win (3 : Fin 6)).fetch t = true := by rw [fin_N t]; rfl
theorem fetch_4 (t : Fin cfg0.N) : (cfg0.win (4 : Fin 6)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The staging buffers as the body finds them, -/
def stagedPre (c : Dev nD) : sProp 𝕄 :=
  iprop((∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
/-- and as it leaves them. -/
def stagedPost (c : Dev nD) : sProp 𝕄 :=
  iprop(stg c cc0_stg0_0 (xst m c) ∗ stg c cc0_stg1_0 (wqst m c) ∗ stg c cc0_stg2_0 (kst m c) ∗ stg c cc0_stg3_0 (vst m c)
    ∗ stg c cc0_stg4_0 (wost m c) ∗ stg c cc0_stg5_0 (outAt m c))

def bodyPre (c : Dev nD) : sProp 𝕄 :=
  iprop(Φ₀ m c ∗ (dats m ρ 0 c).owesAt () t₀.castSucc ∗ stagedPre m ρ c)
def bodyPost (c : Dev nD) : sProp 𝕄 :=
  iprop(Φ₁ m c ∗ (dats m ρ 0 c).owesAt () t₀.succ ∗ stagedPost m c)

/-! ## The rules the body uses -/

section Rules
variable (c : Dev nD)

/-- A load of a box of the key buffer, of the value buffer. -/
theorem wp_load_k {α : Type} {Q : α → sProp 𝕄} {r : Rect S2x512x256} {hl : kM.view.LoadsAt r.toLoadRect} {k : (r.shape.Idx → Elt F .bf16) → Prog (TpuEff nD τ sig (Elt F) Λ₀ .tc) α}
    (S : Finset S2x512x256.Idx) (q : PosShare TreeShare) (f : FVec F S2x512x256 .bf16) (hS : r.set ⊆ S) :
    (kP S q c f : sProp 𝕄)
      ⊢ iprop((kP S q c f -∗ wp frame (wpE (defs₀ (F := F)) 𝒱₀ (c : Thread nD τ) none) Set.univ (k (kM.view.readAt (Elt F) r.toLoadRect f)) Q)
        -∗ wp frame (wpE (defs₀ (F := F)) 𝒱₀ (c : Thread nD τ) none) Set.univ (.op (.load kM r.toLoadRect hl) k) Q) := by
  have h : kM.view.setOn r.toLoadRect.set ⊆ S := by
    have h := (View.set_slice_whole cc0_scratch0 r).subset.trans hS
    rwa [View.set_slice] at h
  unfold kP
  exact wp_load 𝒱₀ (c : Thread nD τ) none Set.univ (m := kM) h
theorem wp_load_v {α : Type} {Q : α → sProp 𝕄} {r : Rect S2x512x256} {hl : vM.view.LoadsAt r.toLoadRect} {k : (r.shape.Idx → Elt F .bf16) → Prog (TpuEff nD τ sig (Elt F) Λ₀ .tc) α}
    (S : Finset S2x512x256.Idx) (q : PosShare TreeShare) (f : FVec F S2x512x256 .bf16) (hS : r.set ⊆ S) :
    (vP S q c f : sProp 𝕄)
      ⊢ iprop((vP S q c f -∗ wp frame (wpE (defs₀ (F := F)) 𝒱₀ (c : Thread nD τ) none) Set.univ (k (vM.view.readAt (Elt F) r.toLoadRect f)) Q)
        -∗ wp frame (wpE (defs₀ (F := F)) 𝒱₀ (c : Thread nD τ) none) Set.univ (.op (.load vM r.toLoadRect hl) k) Q) := by
  have h : vM.view.setOn r.toLoadRect.set ⊆ S := by
    have h := (View.set_slice_whole cc0_scratch1 r).subset.trans hS
    rwa [View.set_slice] at h
  unfold vP
  exact wp_load 𝒱₀ (c : Thread nD τ) none Set.univ (m := vM) h

theorem box_low {b h : ℕ} {hb} : (Rect.unit (s := S2x512x256) ![b, 0, h] S1x384x64.size hb).set ⊆ rLo.set ∪ rMid.set := by
  intro (i : S2x512x256.Idx) hi
  have := mem_box hi
  simp only [Finset.mem_union, mem_rLo, mem_rMid]; omega

/-- The store of the device's own rows. -/
theorem wp_store_k {α : Type} {Q : α → sProp 𝕄} {hx} {hm} {k : PUnit → Prog (TpuEff nD τ sig (Elt F) Λ₀ .tc) α} (f : FVec F S2x512x256 .bf16) :
    (kP rMid.set fullShare c f : sProp 𝕄)
      ⊢ iprop((kP rMid.set fullShare c (kfull m c) -∗ wp frame (wpE (defs₀ (F := F)) 𝒱₀ (c : Thread nD τ) none) Set.univ (k ⟨⟩) Q)
        -∗ wp frame (wpE (defs₀ (F := F)) 𝒱₀ (c : Thread nD τ) none) Set.univ (.op (.store kM rMid (k0_pay2 (kst m c)) Finset.univ hx hm) k) Q) := by
  rw [← store_k m c f]
  exact wp_store 𝒱₀ (c : Thread nD τ) none Set.univ (m := kM) (r := rMid) (by
    exact (View.set_slice_whole cc0_scratch0 rMid).subset)
theorem wp_store_v {α : Type} {Q : α → sProp 𝕄} {hx} {hm} {k : PUnit → Prog (TpuEff nD τ sig (Elt F) Λ₀ .tc) α} (f : FVec F S2x512x256 .bf16) :
    (vP rMid.set fullShare c f : sProp 𝕄)
      ⊢ iprop((vP rMid.set fullShare c (vfull m c) -∗ wp frame (wpE (defs₀ (F := F)) 𝒱₀ (c : Thread nD τ) none) Set.univ (k ⟨⟩) Q)
        -∗ wp frame (wpE (defs₀ (F := F)) 𝒱₀ (c : Thread nD τ) none) Set.univ (.op (.store vM rMid (k0_pay4 (k0_pay3 (vst m c))) Finset.univ hx hm) k) Q) := by
  rw [← store_v m c f]
  exact wp_store 𝒱₀ (c : Thread nD τ) none Set.univ (m := vM) (r := rMid) (by
    exact (View.set_slice_whole cc0_scratch1 rMid).subset)

/-- Copy `i` of device `c`, to device `d`: it takes the source rows' half share (`P`), the destination's rows (`D`), and pays
    the two duties. -/
theorem wp_copy {α : Type} {Q : α → sProp 𝕄} (n d : Dev nD) (hn : n = d) (i : Fin 4) {src dst : Memref sig .tc .vmem S2x128x256 .bf16} {hsc : dst.view.ref.isScScratch = false}
    {hsrc : src.view.WordExact} {hdst : dst.view.WordExact}
    {hsem : DmaTarget.Typed .vmem (.dma (rcvS i)) (.remote (Dev.tc n : Thread nD τ) dst (.dma (sndS i)) hsc)}
    {k : PUnit → Prog (TpuEff nD τ sig (Elt F) Λ₀ .tc) α}
    (hN : dst.view.dmaCredit = N) (O₀ O : CellTallies nD τ sig Unit) (hO : O₀ = O + tallyAt (rcvCell d i) () N) (W : Waits sig Unit)
    (fs : Buf (Elt F) (src.view.loc (c : Thread nD τ))) (fd : Buf (Elt F) (dst.view.loc (d : Thread nD τ))) (P D : sProp 𝕄)
    (hP : (src.view.loc (c : Thread nD τ) ↦[src.view.set]{fullShare.right} fs : sProp 𝕄) = P) (hPay : P = sndPay m i c)
    (hD : (dst.view.loc (d : Thread nD τ) ↦[dst.view.set]{fullShare} fd : sProp 𝕄) = D)
    (hland : (dst.view.loc (d : Thread nD τ) ↦[dst.view.set]{fullShare} (dst.view.write (Elt F) fd (src.view.read (Elt F) fs) Finset.univ) : sProp 𝕄)
      = rcvPay m i d) (κ₁ κ₂ : ℕ) :
    iprop(cellInv ER (sched m) κ₁ (sndCell c i) ∗ cellInv ER (sched m) κ₂ (rcvCell d i) ∗ P ∗ D ∗ owes (c : Thread nD τ) O₀ W
        ∗ dutyTok ER (sndCell c i) 0 false ∗ reached ER (sndCell c i) 0 ∗ dutyTok ER (rcvCell d i) 0 false ∗ reached ER (rcvCell d i) 0)
      ⊢ iprop(((cred (tallyAt (sndCell c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sndS i)) hsc) (.dma (rcvS i)) hsrc hdst hsem) k) Q) := by
  subst hn
  rw [← hP, ← hD]
  exact Rounds.wp_send_pointsTo 𝒱₀ ER (sched m) (c : Thread nD τ) none (κ₁ := κ₁) (κ₂ := κ₂) (r₁ := 0) (r₂ := 0) (d₁ := false) (d₂ := false)
    (mem_duties_x m c _ (isX_s i)) (mem_duties_x m n _ (isX_r i)) () () N hN (amount_x m c (sndS i) false) (amount_x m n (rcvS i) false) O hO (W := W)
    (by rw [pay_snd, hP, hPay]) (by rw [pay_rcv, hland])

/-- A wait on one of the eight copy cells, owing nothing: it returns the position advanced and the payload. -/
theorem wp_wait_x {α : Type} {Q : α → sProp 𝕄} (q : DmaSem sig) (hq : IsX q) (κ : ℕ) (W : Waits sig Unit)
    {src dst : Memref sig .tc .vmem S2x128x256 .bf16} {hsrc : src.view.WordExact} {hdst : dst.view.WordExact} (hN : dst.view.dmaCredit = N)
    {k : PUnit → Prog (TpuEff nD τ sig (Elt F) Λ₀ .tc) α} :
    iprop(cellInv ER (sched m) κ ((c : Thread nD τ), .dma q) ∗ cred (tallyAt ((c : Thread nD τ), SemLoc.dma q) () N) ∗ owes (c : Thread nD τ) 0 W
        ∗ atPos ER ((c : Thread nD τ), .dma q) 0 ∅ 0)
      ⊢ iprop(((owes (c : Thread nD τ) 0 (insert (SemLoc.dma q, ()) W) ∗ atPos ER ((c : Thread nD τ), .dma q) (0 + 1) ∅ 0
            ∗ (sched (F := F) m).payload ((c : Thread nD τ), .dma q) 0 false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HI, Hc, HO, Hat⟩ Hk
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_x m c q hq])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_x m c q hq)); iexact Hpay

/-- One of the device's cells closes: its semaphore is back at zero. -/
theorem close (g : GSem nD τ sig) (κ : ℕ) :
    iprop(cellInv ER (sched m) κ g ∗ atPos ER g (0 + 1) ∅ 0) ⊢ (|={Set.univ}=> semVal g 0 : sProp 𝕄) :=
  Rounds.cell_close ER (sched m) (Set.mem_univ κ) (fun h => h) (R := 0 + 1) (duties_later m g)

end Rules

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem read_0 (f : (cc0_stg0_0 : Ref sig .tc).ty.Contents (Elt F)) : (Memref.whole cc0_stg0_0 : Memref sig .tc .vmem S2x256x512 .f32).view.readAt (Elt F)
    (Rect.unit (s := S2x256x512) ![0, 0, 0] S2x256x512.size inb_S2x256x512_S2x256x512_0_0_0).toLoadRect f = f :=
  Memref.readAt_unit_zero (Elt F) cc0_stg0_0 hz3 _ _
theorem read_1 (f : (cc0_stg1_0 : Ref sig .tc).ty.Contents (Elt F)) : (Memref.whole cc0_stg1_0 : Memref sig .tc .vmem S512x256 .f32).view.readAt (Elt F)
    (Rect.unit (s := S512x256) ![0, 0] S512x256.size inb_S512x256_S512x256_0_0).toLoadRect f = f :=
  Memref.readAt_unit_zero (Elt F) cc0_stg1_0 hz2 _ _
theorem read_2 (f : (cc0_stg2_0 : Ref sig .tc).ty.Contents (Elt F)) : (Memref.whole cc0_stg2_0 : Memref sig .tc .vmem S2x256x4x64 .f32).view.readAt (Elt F)
    (Rect.unit (s := S2x256x4x64) ![0, 0, 0, 0] S2x256x4x64.size inb_S2x256x4x64_S2x256x4x64_0_0_0_0).toLoadRect f = f :=
  Memref.readAt_unit_zero (Elt F) cc0_stg2_0 hz4 _ _
theorem read_3 (f : (cc0_stg3_0 : Ref sig .tc).ty.Contents (Elt F)) : (Memref.whole cc0_stg3_0 : Memref sig .tc .vmem S2x256x4x64 .f32).view.readAt (Elt F)
    (Rect.unit (s := S2x256x4x64) ![0, 0, 0, 0] S2x256x4x64.size inb_S2x256x4x64_S2x256x4x64_0_0_0_0).toLoadRect f = f :=
  Memref.readAt_unit_zero (Elt F) cc0_stg3_0 hz4 _ _
theorem read_4 (f : (cc0_stg4_0 : Ref sig .tc).ty.Contents (Elt F)) : (Memref.whole cc0_stg4_0 : Memref sig .tc .vmem S256x512 .f32).view.readAt (Elt F)
    (Rect.unit (s := S256x512) ![0, 0] S256x512.size inb_S256x512_S256x512_0_0).toLoadRect f = f :=
  Memref.readAt_unit_zero (Elt F) cc0_stg4_0 hz2 _ _
theorem write_out (f w : (cc0_stg5_0 : Ref sig .tc).ty.Contents (Elt F)) :
    ((Memref.whole cc0_stg5_0 : Memref sig .tc .vmem S2x256x512 .f32).access
      (Rect.unit (s := S2x256x512) ![0, 0, 0] S2x256x512.size inb_S2x256x512_S2x256x512_0_0_0) : View sig .tc _ _ _).write (Elt F) f w Finset.univ = w :=
  Memref.write_access_unit_zero_univ (Elt F) cc0_stg5_0 hz3 _ f w

end Cert.KernelIdeal.Halo

end
-- ==== Proof.KernelIdeal.Run.lean ====
/-
The body run once, at a symbolic device: from `bodyPre` to `bodyPost`, one rule per effect in program order.
-/
module

public import proofs.«01_k».proof.Proof.KernelIdeal.Body

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × Fin 9 → ℕ)

theorem box_all {r : Rect S2x512x256} : r.set ⊆ (Finset.univ : Finset S2x512x256.Idx) := Finset.subset_univ _

set_option maxHeartbeats 8000000 in
set_option maxRecDepth 100000 in
theorem sound_body (c : Dev nD) (Kt : PUnit → sProp 𝕄) :
    iprop((ghost m K c ∗ credits c ∗ levAts L lv ∗ (∃ f, kP Finset.univ fullShare c f) ∗ ∃ f, vP Finset.univ fullShare c f)
        ∗ (dats m ρ 0 c).owesAt () t₀.castSucc ∗ stagedPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, Prog.bind_assoc, wp_deviceId]
  simp only [snd0, snd1, snd2, snd3, rcv0, rcv1, rcv2, rcv3]
  unfold ghost linear credits stagedPre
  iintro ⟨⟨⟨#HR, ⟨HatB, ⟨HatS0, HatS1, HatS2, HatS3⟩, HatR0, HatR1, HatR2, HatR3⟩, ⟨HtBP, HtBN⟩, ⟨HtS0, HtS1, HtS2, HtS3⟩, HtR0, HtR1, HtR2, HtR3⟩,
      ⟨HcB, HcR0, HcR1, HcR2, HcR3⟩, #Hlev, ⟨%fk, Hk⟩, ⟨%fv, Hv⟩⟩,
    Ho, ⟨⟨%d0, %g0, %hg0, Hx⟩, ⟨%d1, %g1, %hg1, Hwq⟩, ⟨%d2, %g2, %hg2, Hks⟩, ⟨%d3, %g3, %hg3, Hvs⟩, ⟨%d4, %g4, %hg4, Hwo⟩, ⟨%d5, %g5, %hg5, Hout⟩⟩, HK⟩
  have hx0 : g0 = xst m c := by rw [hg0]; unfold Dat.before; rw [if_pos (fetch_0 t₀)]; rfl
  have hx1 : g1 = wqst m c := by rw [hg1]; unfold Dat.before; rw [if_pos (fetch_1 t₀)]; rfl
  have hx2 : g2 = kst m c := by rw [hg2]; unfold Dat.before; rw [if_pos (fetch_2 t₀)]; rfl
  have hx3 : g3 = vst m c := by rw [hg3]; unfold Dat.before; rw [if_pos (fetch_3 t₀)]; rfl
  have hx4 : g4 = wost m c := by rw [hg4]; unfold Dat.before; rw [if_pos (fetch_4 t₀)]; rfl
  subst hx0 hx1 hx2 hx3 hx4
  unfold Dat.owesAt Pipeline.owesWithin
  icases Ho with ⟨%W, %hW, HO⟩
  rw [show (dats m ρ 0 c).owed t₀.castSucc = oweS c from rfl]
  simp only [dev1_eq c, dev2_eq c]
  -- the buffers cut into the rows to give away and the rows to keep
  ihave Hk3 := (k_cut fullShare c fk).1 $$ Hk
  icases Hk3 with ⟨HkLo, HkMid, HkHi⟩
  ihave Hv3 := (v_cut fullShare c fv).1 $$ Hv
  icases Hv3 with ⟨HvLo, HvMid, HvHi⟩
  -- the first signal: rows 0–127 to `prv`
  iapply (Rounds.wp_signal 𝒱₀ ER (sched m) (c : Thread nD τ) none (dst := (prv c : Thread nD τ)) (κ := K (prv c, 0))
      (d := true) (mem_duties_bar m (prv c) true) ((amount_bar m (prv c) true).trans (by decide)) () (oweN c) rfl)
    $$ [HO HtBP HkLo HvLo]
  · isplitr; · iapply (inv_at m K (prv c, 0)); iexact HR
    isplitl [HO]; · iexact HO
    isplitl [HtBP]; · iexact HtBP
    isplitl [HkLo HvLo]
    · rw [pay_bar_true]; unfold barPayT; rw [nxt_prv]
      isplitl [HkLo]; · iexists fk; iexact HkLo
      isplitl [HvLo]; · iexists fv; iexact HvLo
      isplitr; · iapply (reached_at m K (c, 5)); iexact HR
      iapply (reached_at m K (c, 6)); iexact HR
    · iapply (reached_at m K (prv c, 0)); iexact HR
  iintro HO
  -- the second: rows 384–511 to `nxt`
  iapply (Rounds.wp_signal 𝒱₀ ER (sched m) (c : Thread nD τ) none (dst := (nxt c : Thread nD τ)) (κ := K (nxt c, 0))
      (d := false) (mem_duties_bar m (nxt c) false) ((amount_bar m (nxt c) false).trans (by decide)) () (owe0 c) rfl)
    $$ [HO HtBN HkHi HvHi]
  · isplitr; · iapply (inv_at m K (nxt c, 0)); iexact HR
    isplitl [HO]; · iexact HO
    isplitl [HtBN]; · iexact HtBN
    isplitl [HkHi HvHi]
    · rw [pay_bar_false]; unfold barPayF; rw [prv_nxt]
      isplitl [HkHi]; · iexists fk; iexact HkHi
      isplitl [HvHi]; · iexists fv; iexact HvHi
      isplitr; · iapply (reached_at m K (c, 7)); iexact HR
      iapply (reached_at m K (c, 8)); iexact HR
    · iapply (reached_at m K (nxt c, 0)); iexact HR
  iintro HO
  -- the wait for 2: both neighbours' rows come with it
  iapply (Rounds.wp_wait_rest_token 𝒱₀ ER (sched m) (c : Thread nD τ) none (κ := K (c, 0))
      (wpE_semWait_eq 𝒱₀ (c : Thread nD τ) none Set.univ) (Set.mem_univ _) () (O := owe0 c) (W := W) (R := 0) (m := 0) (T := ∅)
      (by rw [expect_bar]; decide)) $$ [HcB HO HatB]
  · isplitr; · iapply (inv_at m K (c, 0)); iexact HR
    isplitl [HcB]; · iexact HcB
    isplitl [HO]; · iexact HO
    isplitr; · iapply (mayWait_bar c); iexact Hlev
    iexact HatB
  iintro ⟨HO, HatB, -, Hpay⟩
  ihave Hp2 := (Entails.of_eq (rest_bar m c)) $$ Hpay
  unfold barPayF barPayT
  icases Hp2 with ⟨⟨⟨%fkP, HkP⟩, ⟨%fvP, HvP⟩, -, -⟩, ⟨%fkN, HkN⟩, ⟨%fvN, HvN⟩, -, -⟩
  -- the device's own rows stored
  iapply (wp_load 𝒱₀ (c : Thread nD τ) none Set.univ (m := Memref.whole cc0_stg2_0) (Finset.subset_univ _)) $$ Hks; iintro Hks
  rw [read_2]
  iapply (wp_load_k c rMid.set fullShare fk (Finset.Subset.refl _)) $$ HkMid; iintro HkMid
  iapply (wp_store_k m c fk) $$ HkMid; iintro HkMid
  iapply (wp_load 𝒱₀ (c : Thread nD τ) none Set.univ (m := Memref.whole cc0_stg3_0) (Finset.subset_univ _)) $$ Hvs; iintro Hvs
  rw [read_3]
  iapply (wp_load_v c rMid.set fullShare fv (Finset.Subset.refl _)) $$ HvMid; iintro HvMid
  iapply (wp_store_v m c fv) $$ HvMid; iintro HvMid
  -- a half share kept, the other cut for the copies
  ihave Hkm := (k_halves rMid.set c (kfull m c)).1 $$ HkMid
  icases Hkm with ⟨HkMid, HkR⟩
  ihave Hkr := (k_mid fullShare.right c (kfull m c)).1 $$ HkR
  icases Hkr with ⟨HkA, HkB⟩
  ihave Hvm := (v_halves rMid.set c (vfull m c)).1 $$ HvMid
  icases Hvm with ⟨HvMid, HvR⟩
  ihave Hvr := (v_mid fullShare.right c (vfull m c)).1 $$ HvR
  icases Hvr with ⟨HvA, HvB⟩
  -- copy 0
  iapply (wp_copy m c _ (nxt c) (dev3_eq c) 0 (src := kM.slice rB (fun _ => rfl)) (dst := kM.slice rLo (fun _ => rfl)) rfl (owe0 c) (owe1 c) rfl (insert (SemLoc.reg barS, ()) W)
      (kfull m c) fkN (kP rB.set fullShare.right c (kfull m c)) (kP rLo.set fullShare (nxt c) fkN)
      (by rw [set_slice_k]; rfl) rfl (by rw [set_slice_k]; rfl) (by rw [set_slice_k]; exact land_k_up m c fkN) (K (c, 1)) (K (nxt c, 5)))
    $$ [HkB HkN HO HtS0 HtR0]
  · isplitr; · iapply (inv_at m K (c, 1)); iexact HR
    isplitr; · iapply (inv_at m K (nxt c, 5)); iexact HR
    isplitl [HkB]; · iexact HkB
    isplitl [HkN]; · iexact HkN
    isplitl [HO]; · iexact HO
    isplitl [HtS0]; · iexact HtS0
    isplitr; · iapply (reached_at m K (c, 1)); iexact HR
    isplitl [HtR0]; · iexact HtR0
    iapply (reached_at m K (nxt c, 5)); iexact HR
  iintro ⟨HcS0, HO⟩
  -- copy 1
  iapply (wp_copy m c _ (nxt c) (dev4_eq c) 1 (src := vM.slice rB (fun _ => rfl)) (dst := vM.slice rLo (fun _ => rfl)) rfl (owe1 c) (owe2 c) rfl (insert (SemLoc.reg barS, ()) W)
      (vfull m c) fvN (vP rB.set fullShare.right c (vfull m c)) (vP rLo.set fullShare (nxt c) fvN)
      (by rw [set_slice_v]; rfl) rfl (by rw [set_slice_v]; rfl) (by rw [set_slice_v]; exact land_v_up m c fvN) (K (c, 2)) (K (nxt c, 6)))
    $$ [HvB HvN HO HtS1 HtR1]
  · isplitr; · iapply (inv_at m K (c, 2)); iexact HR
    isplitr; · iapply (inv_at m K (nxt c, 6)); iexact HR
    isplitl [HvB]; · iexact HvB
    isplitl [HvN]; · iexact HvN
    isplitl [HO]; · iexact HO
    isplitl [HtS1]; · iexact HtS1
    isplitr; · iapply (reached_at m K (c, 2)); iexact HR
    isplitl [HtR1]; · iexact HtR1
    iapply (reached_at m K (nxt c, 6)); iexact HR
  iintro ⟨HcS1, HO⟩
  -- copy 2
  iapply (wp_copy m c _ (prv c) (dev5_eq c) 2 (src := kM.slice rA (fun _ => rfl)) (dst := kM.slice rHi (fun _ => rfl)) rfl (owe2 c) (owe3 c) rfl (insert (SemLoc.reg barS, ()) W)
      (kfull m c) fkP (kP rA.set fullShare.right c (kfull m c)) (kP rHi.set fullShare (prv c) fkP)
      (by rw [set_slice_k]; rfl) rfl (by rw [set_slice_k]; rfl) (by rw [set_slice_k]; exact land_k_down m c fkP) (K (c, 3)) (K (prv c, 7)))
    $$ [HkA HkP HO HtS2 HtR2]
  · isplitr; · iapply (inv_at m K (c, 3)); iexact HR
    isplitr; · iapply (inv_at m K (prv c, 7)); iexact HR
    isplitl [HkA]; · iexact HkA
    isplitl [HkP]; · iexact HkP
    isplitl [HO]; · iexact HO
    isplitl [HtS2]; · iexact HtS2
    isplitr; · iapply (reached_at m K (c, 3)); iexact HR
    isplitl [HtR2]; · iexact HtR2
    iapply (reached_at m K (prv c, 7)); iexact HR
  iintro ⟨HcS2, HO⟩
  -- copy 3
  iapply (wp_copy m c _ (prv c) (dev6_eq c) 3 (src := vM.slice rA (fun _ => rfl)) (dst := vM.slice rHi (fun _ => rfl)) rfl (owe3 c) 0 (by rw [owe3, zero_add]) (insert (SemLoc.reg barS, ()) W)
      (vfull m c) fvP (vP rA.set fullShare.right c (vfull m c)) (vP rHi.set fullShare (prv c) fvP)
      (by rw [set_slice_v]; rfl) rfl (by rw [set_slice_v]; rfl) (by rw [set_slice_v]; exact land_v_down m c fvP) (K (c, 4)) (K (prv c, 8)))
    $$ [HvA HvP HO HtS3 HtR3]
  · isplitr; · iapply (inv_at m K (c, 4)); iexact HR
    isplitr; · iapply (inv_at m K (prv c, 8)); iexact HR
    isplitl [HvA]; · iexact HvA
    isplitl [HvP]; · iexact HvP
    isplitl [HO]; · iexact HO
    isplitl [HtS3]; · iexact HtS3
    isplitr; · iapply (reached_at m K (c, 4)); iexact HR
    isplitl [HtR3]; · iexact HtR3
    iapply (reached_at m K (prv c, 8)); iexact HR
  iintro ⟨HcS3, HO⟩
  -- the queries
  iapply (wp_load 𝒱₀ (c : Thread nD τ) none Set.univ (m := Memref.whole cc0_stg1_0) (Finset.subset_univ _)) $$ Hwq; iintro Hwq
  rw [read_1]
  iapply (wp_load 𝒱₀ (c : Thread nD τ) none Set.univ (m := Memref.whole cc0_stg0_0) (Finset.subset_univ _)) $$ Hx; iintro Hx
  rw [read_0]
  -- the waits for the copies to and from the lower side
  iapply (wp_wait_x m c (sndS 0) (isX_s 0) (K (c, 1)) _ (src := kM.slice rLo (fun _ => rfl)) (dst := kM.slice rB (fun _ => rfl)) rfl) $$ [HcS0 HO HatS0]
  · isplitr; · iapply (inv_at m K (c, 1)); iexact HR
    isplitl [HcS0]; · iexact HcS0
    isplitl [HO]; · iexact HO
    iexact HatS0
  iintro ⟨HO, HatS0, Hpay⟩
  ihave HkB := (Entails.of_eq (pay_snd m c 0 false)) $$ Hpay
  iapply (wp_wait_x m c (rcvS 0) (isX_r 0) (K (c, 5)) _ (src := kM.slice rB (fun _ => rfl)) (dst := kM.slice rLo (fun _ => rfl)) rfl) $$ [HcR0 HO HatR0]
  · isplitr; · iapply (inv_at m K (c, 5)); iexact HR
    isplitl [HcR0]; · iexact HcR0
    isplitl [HO]; · iexact HO
    iexact HatR0
  iintro ⟨HO, HatR0, Hpay⟩
  ihave HkLo := (Entails.of_eq (pay_rcv m c 0 false)) $$ Hpay
  iapply (wp_wait_x m c (sndS 1) (isX_s 1) (K (c, 2)) _ (src := vM.slice rLo (fun _ => rfl)) (dst := vM.slice rB (fun _ => rfl)) rfl) $$ [HcS1 HO HatS1]
  · isplitr; · iapply (inv_at m K (c, 2)); iexact HR
    isplitl [HcS1]; · iexact HcS1
    isplitl [HO]; · iexact HO
    iexact HatS1
  iintro ⟨HO, HatS1, Hpay⟩
  ihave HvB := (Entails.of_eq (pay_snd m c 1 false)) $$ Hpay
  iapply (wp_wait_x m c (rcvS 1) (isX_r 1) (K (c, 6)) _ (src := vM.slice rB (fun _ => rfl)) (dst := vM.slice rLo (fun _ => rfl)) rfl) $$ [HcR1 HO HatR1]
  · isplitr; · iapply (inv_at m K (c, 6)); iexact HR
    isplitl [HcR1]; · iexact HcR1
    isplitl [HO]; · iexact HO
    iexact HatR1
  iintro ⟨HO, HatR1, Hpay⟩
  ihave HvLo := (Entails.of_eq (pay_rcv m c 1 false)) $$ Hpay
  unfold sndPay rcvPay
  ihave Hl := (k_halves rLo.set c (kfull m c)).1 $$ HkLo
  icases Hl with ⟨HkLo, HkLoR⟩
  ihave Hkk := (k_lomid fullShare.left c (kfull m c)).2 $$ [HkLo HkMid]
  · isplitl [HkLo] <;> iassumption
  ihave Hl := (v_halves rLo.set c (vfull m c)).1 $$ HvLo
  icases Hl with ⟨HvLo, HvLoR⟩
  ihave Hvv := (v_lomid fullShare.left c (vfull m c)).2 $$ [HvLo HvMid]
  · isplitl [HvLo] <;> iassumption
  -- the eight heads of the first 128 rows
  iterate 8
    iapply (wp_load_k c (rLo.set ∪ rMid.set) fullShare.left (kfull m c) box_low) $$ Hkk; iintro Hkk
    iapply (wp_load_v c (rLo.set ∪ rMid.set) fullShare.left (vfull m c) box_low) $$ Hvv; iintro Hvv
  -- the waits for the copies to and from the upper side
  iapply (wp_wait_x m c (sndS 2) (isX_s 2) (K (c, 3)) _ (src := kM.slice rHi (fun _ => rfl)) (dst := kM.slice rA (fun _ => rfl)) rfl) $$ [HcS2 HO HatS2]
  · isplitr; · iapply (inv_at m K (c, 3)); iexact HR
    isplitl [HcS2]; · iexact HcS2
    isplitl [HO]; · iexact HO
    iexact HatS2
  iintro ⟨HO, HatS2, Hpay⟩
  ihave HkA := (Entails.of_eq (pay_snd m c 2 false)) $$ Hpay
  iapply (wp_wait_x m c (rcvS 2) (isX_r 2) (K (c, 7)) _ (src := kM.slice rA (fun _ => rfl)) (dst := kM.slice rHi (fun _ => rfl)) rfl) $$ [HcR2 HO HatR2]
  · isplitr; · iapply (inv_at m K (c, 7)); iexact HR
    isplitl [HcR2]; · iexact HcR2
    isplitl [HO]; · iexact HO
    iexact HatR2
  iintro ⟨HO, HatR2, Hpay⟩
  ihave HkHi := (Entails.of_eq (pay_rcv m c 2 false)) $$ Hpay
  iapply (wp_wait_x m c (sndS 3) (isX_s 3) (K (c, 4)) _ (src := vM.slice rHi (fun _ => rfl)) (dst := vM.slice rA (fun _ => rfl)) rfl) $$ [HcS3 HO HatS3]
  · isplitr; · iapply (inv_at m K (c, 4)); iexact HR
    isplitl [HcS3]; · iexact HcS3
    isplitl [HO]; · iexact HO
    iexact HatS3
  iintro ⟨HO, HatS3, Hpay⟩
  ihave HvA := (Entails.of_eq (pay_snd m c 3 false)) $$ Hpay
  iapply (wp_wait_x m c (rcvS 3) (isX_r 3) (K (c, 8)) _ (src := vM.slice rA (fun _ => rfl)) (dst := vM.slice rHi (fun _ => rfl)) rfl) $$ [HcR3 HO HatR3]
  · isplitr; · iapply (inv_at m K (c, 8)); iexact HR
    isplitl [HcR3]; · iexact HcR3
    isplitl [HO]; · iexact HO
    iexact HatR3
  iintro ⟨HO, HatR3, Hpay⟩
  ihave HvHi := (Entails.of_eq (pay_rcv m c 3 false)) $$ Hpay
  unfold sndPay rcvPay
  ihave Hl := (k_halves rHi.set c (kfull m c)).1 $$ HkHi
  icases Hl with ⟨HkHi, HkHiR⟩
  ihave Hkk := (k_all fullShare.left c (kfull m c)).2 $$ [Hkk HkHi]
  · isplitl [Hkk] <;> iassumption
  ihave Hl := (v_halves rHi.set c (vfull m c)).1 $$ HvHi
  icases Hl with ⟨HvHi, HvHiR⟩
  ihave Hvv := (v_all fullShare.left c (vfull m c)).2 $$ [Hvv HvHi]
  · isplitl [Hvv] <;> iassumption
  -- the eight heads of the last 128 rows
  iterate 8
    iapply (wp_load_k c Finset.univ fullShare.left (kfull m c) box_all) $$ Hkk; iintro Hkk
    iapply (wp_load_v c Finset.univ fullShare.left (vfull m c) box_all) $$ Hvv; iintro Hvv
  -- the output
  iapply (wp_load 𝒱₀ (c : Thread nD τ) none Set.univ (m := Memref.whole cc0_stg4_0) (Finset.subset_univ _)) $$ Hwo; iintro Hwo
  rw [read_4]
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0)
    (r := Rect.unit (s := S2x256x512) ![0, 0, 0] S2x256x512.size inb_S2x256x512_S2x256x512_0_0_0) (Mk := Finset.univ) (Finset.subset_univ _)) $$ Hout; iintro Hout
  rw [write_out, wp_ret]
  -- the nine cells close
  imod (close m (barCell c) (K (c, 0))) $$ [HatB] with HzB
  · isplitr; · iapply (inv_at m K (c, 0)); iexact HR
    iexact HatB
  imod (close m (sndCell c 0) (K (c, 1))) $$ [HatS0] with HzS0
  · isplitr; · iapply (inv_at m K (c, 1)); iexact HR
    iexact HatS0
  imod (close m (sndCell c 1) (K (c, 2))) $$ [HatS1] with HzS1
  · isplitr; · iapply (inv_at m K (c, 2)); iexact HR
    iexact HatS1
  imod (close m (sndCell c 2) (K (c, 3))) $$ [HatS2] with HzS2
  · isplitr; · iapply (inv_at m K (c, 3)); iexact HR
    iexact HatS2
  imod (close m (sndCell c 3) (K (c, 4))) $$ [HatS3] with HzS3
  · isplitr; · iapply (inv_at m K (c, 4)); iexact HR
    iexact HatS3
  imod (close m (rcvCell c 0) (K (c, 5))) $$ [HatR0] with HzR0
  · isplitr; · iapply (inv_at m K (c, 5)); iexact HR
    iexact HatR0
  imod (close m (rcvCell c 1) (K (c, 6))) $$ [HatR1] with HzR1
  · isplitr; · iapply (inv_at m K (c, 6)); iexact HR
    iexact HatR1
  imod (close m (rcvCell c 2) (K (c, 7))) $$ [HatR2] with HzR2
  · isplitr; · iapply (inv_at m K (c, 7)); iexact HR
    iexact HatR2
  imod (close m (rcvCell c 3) (K (c, 8))) $$ [HatR3] with HzR3
  · isplitr; · iapply (inv_at m K (c, 8)); iexact HR
    iexact HatR3
  -- the buffers whole again
  ihave HmR := (k_mid fullShare.right c (kfull m c)).2 $$ [HkA HkB]
  · isplitl [HkA] <;> iassumption
  ihave HrR := (k_cut fullShare.right c (kfull m c)).2 $$ [HkLoR HmR HkHiR]
  · isplitl [HkLoR]; · iexact HkLoR
    isplitl [HmR] <;> iassumption
  ihave Hk := (k_halves Finset.univ c (kfull m c)).2 $$ [Hkk HrR]
  · isplitl [Hkk] <;> iassumption
  ihave HmR := (v_mid fullShare.right c (vfull m c)).2 $$ [HvA HvB]
  · isplitl [HvA] <;> iassumption
  ihave HrR := (v_cut fullShare.right c (vfull m c)).2 $$ [HvLoR HmR HvHiR]
  · isplitl [HvLoR]; · iexact HvLoR
    isplitl [HmR] <;> iassumption
  ihave Hv := (v_halves Finset.univ c (vfull m c)).2 $$ [Hvv HrR]
  · isplitl [Hvv] <;> iassumption
  imodintro
  iapply HK
  unfold bodyPost Φ₁ zeros stagedPost Dat.owesAt Pipeline.owesWithin
  rw [show (dats m ρ 0 c).owed t₀.succ = 0 from rfl]
  isplitl [Hk Hv HzB HzS0 HzS1 HzS2 HzS3 HzR0 HzR1 HzR2 HzR3]
  · isplitl [Hk Hv]; · isplitl [Hk] <;> iassumption
    isplitl [HzB]; · iexact HzB
    isplitl [HzS0]; · iexact HzS0
    isplitl [HzS1]; · iexact HzS1
    isplitl [HzS2]; · iexact HzS2
    isplitl [HzS3]; · iexact HzS3
    isplitl [HzR0]; · iexact HzR0
    isplitl [HzR1]; · iexact HzR1
    isplitl [HzR2]; · iexact HzR2
    iexact HzR3
  isplitl [HO]
  · iexists _
    isplitr
    rotate_left
    · iexact HO
    · ipureintro; exact fun _ _ => Or.inl trivial
  isplitl [Hx]
  · iexists _; isplitr; · (ipureintro; rfl)
    iexact Hx
  isplitl [Hwq]
  · iexists _; isplitr; · (ipureintro; rfl)
    iexact Hwq
  isplitl [Hks]
  · iexists _; isplitr; · (ipureintro; rfl)
    iexact Hks
  isplitl [Hvs]
  · iexists _; isplitr; · (ipureintro; rfl)
    iexact Hvs
  isplitl [Hwo]
  · iexists _; isplitr; · (ipureintro; rfl)
    iexact Hwo
  iexists _; isplitr; · (ipureintro; rfl)
  iexact Hout

end Cert.KernelIdeal.Halo

end
-- ==== Proof.KernelIdeal.Launch.lean ====
/-
The launch: the semaphores' tokens dealt around the ring, what each device is credited and owes, and the run of `@main`
from any memory with every semaphore at zero — every device's arrays at the computed contents, every semaphore at zero.
-/
module

public import proofs.«01_k».proof.Proof.KernelIdeal.Run
public import Idealize.ShloMosaic.Lib.Pipeline.CollectiveSegs

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

def bodyPre' (c : Dev nD) : sProp 𝕄 := iprop(Φ₀ m c ∗ (dats m ρ 0 c).owesAt () t₀.castSucc ∗ stagedPre m ρ c)

set_option maxRecDepth 4000 in
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ
      = iprop(Φ (0 : Fin 6) ∗ Φ (1 : Fin 6) ∗ Φ (2 : Fin 6) ∗ Φ (3 : Fin 6) ∗ Φ (4 : Fin 6) ∗ Φ (5 : Fin 6)) from bigSep_W0]
  rw [show ∀ Φ : Fin cfg0.W → sProp 𝕄, bigSep Finset.univ Φ
      = iprop(Φ (0 : Fin 6) ∗ Φ (1 : Fin 6) ∗ Φ (2 : Fin 6) ∗ Φ (3 : Fin 6) ∗ Φ (4 : Fin 6) ∗ Φ (5 : Fin 6)) from bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3) (fun _ => bodyPost m ρ c)
  unfold bodyPre' Φ₀ start
  iintro ⟨⟨⟨⟨%K, Hg⟩, Hc, Hl⟩, Hk, Hv⟩, Ho, Hs⟩
  iapply (sound_body m ρ K c fun _ => bodyPost m ρ c)
  isplitl [Hg Hc Hl Hk Hv]
  · isplitl [Hg]; · iexact Hg
    isplitl [Hc]; · iexact Hc
    isplitl [Hl]; · iexact Hl
    isplitl [Hk] <;> iassumption
  isplitl [Ho]; · iexact Ho
  isplitl [Hs]; · iexact Hs
  iintro H; iexact H

/-! ## The cells and their tokens -/

theorem ownSemFacts : Pipeline.OwnSemFacts cfg0.spec osem := by decide
theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have h1 : c = c' := congrArg (fun g : GSem nD τ sig => g.1.1) h
  subst h1
  have h2 : csem k = csem k' := congrArg Prod.snd h
  have h3 : ∀ k k' : Fin 9, csem k = csem k' → k = k' := by decide
  rw [h3 k k' h2]
def ringCells : Finset (GSem nD τ sig) := Finset.univ.map ⟨kcell, kcell_injective⟩

/-- The duty tokens of a device's own cells: two at the barrier, one at each copy cell. -/
abbrev tokOf (cj : Dev nD × Fin 10) : GSem nD τ sig × ℕ × Bool := match cj.2 with
  | 0 => (barCell cj.1, 0, true) | 1 => (barCell cj.1, 0, false)
  | 2 => (sndCell cj.1 0, 0, false) | 3 => (sndCell cj.1 1, 0, false) | 4 => (sndCell cj.1 2, 0, false) | 5 => (sndCell cj.1 3, 0, false)
  | 6 => (rcvCell cj.1 0, 0, false) | 7 => (rcvCell cj.1 1, 0, false) | 8 => (rcvCell cj.1 2, 0, false) | 9 => (rcvCell cj.1 3, 0, false)
theorem tokOf_dev (cj : Dev nD × Fin 10) : (tokOf cj).1.1.1 = cj.1 := by
  obtain ⟨c, j⟩ := cj
  match j with
  | 0 => rfl | 1 => rfl | 2 => rfl | 3 => rfl | 4 => rfl | 5 => rfl | 6 => rfl | 7 => rfl | 8 => rfl | 9 => rfl
theorem tokOf_sem : ∀ (c : Dev nD) (j j' : Fin 10), ((tokOf (c, j)).1.2, (tokOf (c, j)).2.2) = ((tokOf (c, j')).1.2, (tokOf (c, j')).2.2) → j = j' := by
  decide
theorem tokOf_injective : Function.Injective (tokOf : Dev nD × Fin 10 → GSem nD τ sig × ℕ × Bool) := by
  rintro ⟨c, j⟩ ⟨c', j'⟩ h
  have h1 : c = c' := by
    have := congrArg (fun x : GSem nD τ sig × ℕ × Bool => x.1.1.1) h
    rwa [tokOf_dev, tokOf_dev] at this
  subst h1
  rw [tokOf_sem c j j' (congrArg (fun x : GSem nD τ sig × ℕ × Bool => (x.1.2, x.2.2)) h)]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- The same tokens, in the shape of `linear`. -/
def toks (c : Dev nD) : sProp 𝕄 :=
  iprop((dutyTok ER (barCell c) 0 true ∗ dutyTok ER (barCell c) 0 false)
    ∗ (dutyTok ER (sndCell c 0) 0 false ∗ dutyTok ER (sndCell c 1) 0 false ∗ dutyTok ER (sndCell c 2) 0 false ∗ dutyTok ER (sndCell c 3) 0 false)
    ∗ (dutyTok ER (rcvCell c 0) 0 false ∗ dutyTok ER (rcvCell c 1) 0 false ∗ dutyTok ER (rcvCell c 2) 0 false ∗ dutyTok ER (rcvCell c 3) 0 false))

/-- What the launch deals device `c`, and what the handing around makes of it. -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 ∅ 0 ∗ reached ER (kcell (c, k)) 0)) ∗ toks c)
def G' (c : Dev nD) : sProp 𝕄 := iprop(∃ K, ghost m K c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem toks_of (c : Dev nD) : (bigSep Finset.univ fun j : Fin 10 => (dutyTok ER (tokOf (c, j)).1 (tokOf (c, j)).2.1 (tokOf (c, j)).2.2 : sProp 𝕄)) ⊢ toks c := by
  rw [bigSep_fin10]; unfold toks
  iintro ⟨H0, H1, H2, H3, H4, H5, H6, H7, H8, H9⟩
  isplitl [H0 H1]
  · isplitl [H0]; · iexact H0
    iexact H1
  isplitl [H2 H3 H4 H5]
  · isplitl [H2]; · iexact H2
    isplitl [H3]; · iexact H3
    isplitl [H4]; · iexact H4
    iexact H5
  isplitl [H6]; · iexact H6
  isplitl [H7]; · iexact H7
  isplitl [H8]; · iexact H8
  iexact H9

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_of c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5, 6, 7] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  unfold zeros
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens a device pays, out of every device's own: each goes to the neighbour that pays it. -/
def payToks (c : Dev nD) : sProp 𝕄 :=
  iprop((dutyTok ER (barCell (prv c)) 0 true ∗ dutyTok ER (barCell (nxt c)) 0 false)
    ∗ (dutyTok ER (sndCell c 0) 0 false ∗ dutyTok ER (sndCell c 1) 0 false ∗ dutyTok ER (sndCell c 2) 0 false ∗ dutyTok ER (sndCell c 3) 0 false)
    ∗ (dutyTok ER (rcvCell (nxt c) 0) 0 false ∗ dutyTok ER (rcvCell (nxt c) 1) 0 false
      ∗ dutyTok ER (rcvCell (prv c) 2) 0 false ∗ dutyTok ER (rcvCell (prv c) 3) 0 false))

theorem toks_around : (bigSep Finset.univ fun c : Dev nD => (toks c : sProp 𝕄)) = bigSep Finset.univ fun c : Dev nD => payToks c := by
  unfold toks payToks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (dutyTok ER (rcvCell c 0) 0 false : sProp 𝕄)),
    bigSep_univ_equiv ring (fun c : Dev nD => (dutyTok ER (rcvCell c 1) 0 false : sProp 𝕄)),
    bigSep_univ_equiv ring.symm (fun c : Dev nD => (dutyTok ER (rcvCell c 2) 0 false : sProp 𝕄)),
    bigSep_univ_equiv ring.symm (fun c : Dev nD => (dutyTok ER (rcvCell c 3) 0 false : sProp 𝕄))]
  rfl

theorem linear_intro (c : Dev nD) :
    iprop((bigSep Finset.univ fun k : Fin 9 => (atPos ER (kcell (c, k)) 0 ∅ 0 : sProp 𝕄)) ∗ payToks c) ⊢ linear c := by
  unfold linear payToks; rw [bigSep_fin9]
  iintro ⟨⟨H0, H1, H2, H3, H4, H5⟩, Ht⟩
  isplitl [H0 H1 H2 H3 H4 H5]
  · isplitl [H0]; · iexact H0
    isplitl [H1 H2 H3 H4]
    · isplitl [H1]; · iexact H1
      isplitl [H2]; · iexact H2
      isplitl [H3]; · iexact H3
      iexact H4
    iexact H5
  iexact Ht

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 9 → ℕ) (c : Dev nD) : iprop(records m K ∗ linear c) ⊢ G' m c := by
  unfold G' ghost; iintro H; iexists K; iexact H

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄)), toks_around]
  iintro ⟨HI, ⟨Hat, #HR⟩, Htk⟩
  ihave HK := (BI.bigSep_exists_pi Finset.univ (fun (ck : Dev nD × Fin 9) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices owe a cell at the start, summed: what its owner is credited -/

theorem bar_eq_iff {a b : Dev nD} : barCell a = barCell b ↔ a = b :=
  ⟨fun h => congrArg (fun g : GSem nD τ sig => g.1.1) h, fun h => h ▸ rfl⟩
theorem rcvS_inj : ∀ i j : Fin 4, (SemLoc.dma (rcvS i) : SemLoc sig) = .dma (rcvS j) → i = j := by decide
theorem rcv_eq_iff {a b : Dev nD} {i j : Fin 4} : rcvCell a i = rcvCell b j ↔ a = b ∧ i = j :=
  ⟨fun h => ⟨congrArg (fun g : GSem nD τ sig => g.1.1) h, rcvS_inj i j (congrArg Prod.snd h)⟩, fun h => by rw [h.1, h.2]⟩
theorem rcv_ne_bar {a b : Dev nD} {i : Fin 4} : rcvCell a i ≠ barCell b := fun h => by cases congrArg Prod.snd h
theorem bar_ne_rcv {a b : Dev nD} {i : Fin 4} : barCell b ≠ rcvCell a i := fun h => by cases congrArg Prod.snd h
theorem nxt_eq_iff {d c : Dev nD} : c = nxt d ↔ d = prv c :=
  ⟨fun h => by rw [h, prv_nxt], fun h => by rw [h, nxt_prv]⟩
theorem prv_eq_iff {d c : Dev nD} : c = prv d ↔ d = nxt c :=
  ⟨fun h => by rw [h, nxt_prv], fun h => by rw [h, prv_nxt]⟩

theorem owed_bar (d c : Dev nD) : oweS d (barCell c) () = (if d = prv c then 1 else 0) + (if d = nxt c then 1 else 0) := by
  unfold oweS oweN owe0 owe1 owe2 owe3
  have e1 := propext (nxt_eq_iff (d := d) (c := c))
  have e2 := propext (prv_eq_iff (d := d) (c := c))
  simp only [Pi.add_apply, Finsupp.add_apply, tallyAt_apply, bar_ne_rcv, bar_eq_iff, e1, e2, false_and, if_false, and_true, Nat.zero_add]
theorem owed_rcv (d c : Dev nD) (i : Fin 4) : oweS d (rcvCell c i) () = if d = (if i.val < 2 then prv c else nxt c) then N else 0 := by
  unfold oweS oweN owe0 owe1 owe2 owe3
  have e1 := propext (nxt_eq_iff (d := d) (c := c))
  have e2 := propext (prv_eq_iff (d := d) (c := c))
  simp only [Pi.add_apply, Finsupp.add_apply, tallyAt_apply, rcv_ne_bar, rcv_eq_iff, e1, e2, false_and, if_false, and_true, Nat.add_zero]
  have h : ∀ (i : Fin 4) (p q : Prop) [Decidable p] [Decidable q] (n : ℕ),
      ((((if p ∧ i = 3 then n else 0) + (if p ∧ i = 2 then n else 0)) + (if q ∧ i = 1 then n else 0)) + (if q ∧ i = 0 then n else 0))
        = if i.val < 2 then (if q then n else 0) else (if p then n else 0) := by
    intro i p q _ _ n
    match i with
    | 0 => simp
    | 1 => simp
    | 2 => simp
    | 3 => simp
  rw [h i (d = nxt c) (d = prv c) N]
  split <;> rfl

theorem launch_bar (c : Dev nD) :
    tallyOn (barCell c) (launchCredit (Pipeline.owing oweS) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]
theorem launch_rcv (c : Dev nD) (i : Fin 4) :
    tallyOn (rcvCell c i) (launchCredit (Pipeline.owing oweS) 0 (rcvCell c i)) = (tallyAt (rcvCell c i) () N : CellTallies nD τ sig Unit) := by
  unfold tallyAt; refine congrArg _ (Finsupp.ext fun u => ?_); cases u
  rw [Pipeline.launchCredit_owing, Finsupp.single_eq_same, Finset.sum_congr rfl fun d _ => owed_rcv d c i, Finset.sum_ite_eq' Finset.univ _ fun _ => N,
    if_pos (Finset.mem_univ _)]

theorem rcvS_ne {i j : Fin 4} (h : i ≠ j) : (SemLoc.dma (rcvS i) : SemLoc sig) ≠ .dma (rcvS j) := fun h' => h (rcvS_inj i j h')
theorem rcvS_ne_bar {i : Fin 4} : (SemLoc.dma (rcvS i) : SemLoc sig) ≠ .reg barS := fun h => by cases h

theorem creds (c : Dev nD) : (Pipeline.launchCred oweS c : sProp 𝕄) ⊢ credits c := by
  unfold Pipeline.launchCred credits
  rw [bigSep_univ_at _ (SemLoc.reg barS), launch_bar]
  refine sep_mono_right ?_
  rw [bigSep_erase (i := SemLoc.dma (rcvS 0)) (by simp [rcvS_ne_bar]), launch_rcv]
  refine sep_mono_right ?_
  rw [bigSep_erase (i := SemLoc.dma (rcvS 1)) (by simp [rcvS_ne_bar]), launch_rcv]
  refine sep_mono_right ?_
  rw [bigSep_erase (i := SemLoc.dma (rcvS 2)) (by simp [rcvS_ne_bar]), launch_rcv]
  refine sep_mono_right ?_
  rw [← launch_rcv]
  exact bigSep_elim (by simp [rcvS_ne_bar])

/-! ## The run -/

theorem start_intro (c : Dev nD) :
    iprop(Pipeline.unscopedRestP Pipeline.Prefetch.none cfg0.spec c (fun b => m ((c : Thread nD τ).loc b)) ∗ levAts L lv
        ∗ Pipeline.launchCred oweS c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ kP vP
  iintro ⟨Hs, -, ⟨%f, Hk⟩, ⟨%g, Hv⟩⟩
  isplitl [Hs]; · iexact Hs
  isplitl [Hk]
  · iexists f; iexact Hk
  iexists g; iexact Hv

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ kP vP
  iintro ⟨⟨Hk, Hv⟩, HzB, Hz⟩
  isplitl [HzB]; · iexact HzB
  isplitl [Hz]; · iexact Hz
  isplitl [Hk]
  · iexists (kfull m c); iexact Hk
  iexists (vfull m c); iexact Hv

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := oweS) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Halo

end
-- ==== Proof.KernelIdeal.Result.lean ====
/-
The run of all sixteen devices, read at the argument arrays and at the result: the arguments as launched, the result the
block the body wrote, every semaphore at zero.
-/
module

public import proofs.«01_k».proof.Proof.KernelIdeal.Launch
public import Idealize.ShloMosaic.Lib.Pipeline.ValueKit

@[expose] public section

noncomputable section

namespace Cert.KernelIdeal.Halo

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F] [Named F]

variable (m : (ℓ : Loc nD τ sig) → Buf (Elt F) ℓ) (ρ : Dev nD → PrngReg)

theorem finalA_out (c : Dev nD) : finalA m ρ c (5 : Fin 6) = outAt m c := by
  refine (dats m ρ 0 c).arrAt_eq_of_after_last (5 : Fin 6) t₀ (by decide +kernel) _ fun j => ?_
  blk_simp
  rfl

/-- Every execution ends, with the arguments as launched, device `c`'s result `outAt m c`, and every semaphore at zero. -/
theorem result : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨(h.1 c 5).trans (finalA_out m ρ c),
      (h.1 c 0).trans ((dats (F := F) m ρ 0 c).arrAt_in (0 : Fin 6) rfl _),
      (h.1 c 1).trans ((dats (F := F) m ρ 0 c).arrAt_in (1 : Fin 6) rfl _),
      (h.1 c 2).trans ((dats (F := F) m ρ 0 c).arrAt_in (2 : Fin 6) rfl _),
      (h.1 c 3).trans ((dats (F := F) m ρ 0 c).arrAt_in (3 : Fin 6) rfl _),
      (h.1 c 4).trans ((dats (F := F) m ρ 0 c).arrAt_in (4 : Fin 6) rfl _)⟩, h.2⟩) (run_main m ρ)

end Cert.KernelIdeal.Halo

end
-- ==== Proof.Math.Head.lean ====
/-
What one device's kernel computes from the queries, the key and value buffers and the masks: every one of its sixteen
blocks (two batches, two groups of 128 rows, four heads) is the same block of attention.
-/
module

public import proofs.«01_k».proof.Proof.KernelIdeal.Body
public import Idealize.ShloMosaic.Lib.Pointwise

@[expose] public section

noncomputable section

namespace Cert.KernelIdeal.Halo

open Cert.KernelIdeal Cert.KernelIdeal.Gen Idealize.ShloMosaic Idealize.ShloMosaic.TcCoe

/-- The exponentials of the masked scores of a block: 128 queries against 384 keys. -/
def headExp (bias : FVec Ideal S128x384 .f32) (q : FVec Ideal S128x64 .bf16) (k : FVec Ideal S1x384x64 .bf16) : FVec Ideal S128x384 .f32 :=
  exp (addf (matmul dot_S128x64_S384x64_S128x384_1_1_0_0_n_n none q (shapeCast S384x64 k shapeCasts_S1x384x64_S384x64) (constant S128x384 .f32 0x00000000#32)) bias)
/-- A block of attention: the values weighed by the exponentials, over the sum of the exponentials. -/
def head (bias : FVec Ideal S128x384 .f32) (q : FVec Ideal S128x64 .bf16) (k v : FVec Ideal S1x384x64 .bf16) : FVec Ideal S128x64 .f32 :=
  divf (matmul dot_S128x384_S384x64_S128x64_1_0_0_1_n_n none (truncf .bf16 (headExp bias q k) bitsLt_bf16_f32) (shapeCast S384x64 v shapeCasts_S1x384x64_S384x64) (constant S128x64 .f32 0x00000000#32))
    (broadcastTo S128x64 (shapeCast S128x1 (multiReduction .add [1] S128 (headExp bias q k) 0x00000000#32 reduces_S128x384_S128 (.inl rfl) rfl) shapeCasts_S128_S128x1) broadcasts_S128x1_S128x64)

theorem headExp_at (bias : FVec Ideal S128x384 .f32) (q : FVec Ideal S128x64 .bf16) (k : FVec Ideal S1x384x64 .bf16) (i : Fin 128) (t : Fin 384) :
    headExp bias q k (ix2 i t) = Ideal.exp ((∑ x : Fin 64, q (ix2 i x) * k (ix3 (0 : Fin 1) t x)) + bias (ix2 i t)) := by
  pointwise [headExp]
theorem head_at (bias : FVec Ideal S128x384 .f32) (q : FVec Ideal S128x64 .bf16) (k v : FVec Ideal S1x384x64 .bf16) (i : Fin 128) (d : Fin 64) :
    head bias q k v (ix2 i d)
      = Ideal.div (∑ t : Fin 384, headExp bias q k (ix2 i t) * v (ix3 (0 : Fin 1) t d)) (∑ t : Fin 384, headExp bias q k (ix2 i t)) := by
  pointwise [head]

theorem slices_q (b u : Fin 2) (h : Fin 4) : S512x256.Slices ![b.val * 256 + u.val * 128, h.val * 64] S128x64 := by
  revert b u h; decide
theorem inb_box (b u : Fin 2) (h : Fin 4) : ∀ a, (![b.val, u.val * 128, h.val * 64] : Fin 3 → ℕ) a + S1x384x64.size a ≤ S2x512x256.size a := by
  revert b u h; decide

theorem slice_at (Q : FVec Ideal S512x256 .bf16) (b u : Fin 2) (h : Fin 4) (i : Fin 128) (x : Fin 64) :
    extractStridedSlice S128x64 ![b.val * 256 + u.val * 128, h.val * 64] Q (slices_q b u h) (ix2 i x)
      = Q (ix2 (⟨b.val * 256 + u.val * 128 + i.val, by omega⟩ : Fin 512) (⟨h.val * 64 + x.val, by omega⟩ : Fin 256)) := by
  refine congrArg Q (funext fun a => Fin.ext ?_)
  fin_cases a <;> rfl
theorem box_k_at (X : FVec Ideal S2x512x256 .bf16) (b u : Fin 2) (h : Fin 4) (t : Fin 384) (x : Fin 64) :
    kM.view.readAt (Elt Ideal) (boxOf b.val (u.val * 128) (h.val * 64) (inb_box b u h)).toLoadRect X (ix3 (0 : Fin 1) t x)
      = X (ix3 b (⟨u.val * 128 + t.val, by omega⟩ : Fin 512) (⟨h.val * 64 + x.val, by omega⟩ : Fin 256)) := by
  refine congrArg X (funext fun a => Fin.ext ?_)
  fin_cases a
  · show b.val + 1 * 0 = b.val
    omega
  · show u.val * 128 + 1 * t.val = _
    simp [ix3]
  · show h.val * 64 + 1 * x.val = _
    simp [ix3]
theorem box_v_at (X : FVec Ideal S2x512x256 .bf16) (b u : Fin 2) (h : Fin 4) (t : Fin 384) (x : Fin 64) :
    vM.view.readAt (Elt Ideal) (boxOf b.val (u.val * 128) (h.val * 64) (inb_box b u h)).toLoadRect X (ix3 (0 : Fin 1) t x)
      = X (ix3 b (⟨u.val * 128 + t.val, by omega⟩ : Fin 512) (⟨h.val * 64 + x.val, by omega⟩ : Fin 256)) := by
  refine congrArg X (funext fun a => Fin.ext ?_)
  fin_cases a
  · show b.val + 1 * 0 = b.val
    omega
  · show u.val * 128 + 1 * t.val = _
    simp [ix3]
  · show h.val * 64 + 1 * x.val = _
    simp [ix3]

variable (m : (ℓ : Loc nD τ sig) → Buf (Elt Ideal) ℓ)

/-- The mask of a group of 128 rows. -/
def biasOf (c : Dev nD) (u : Fin 2) : FVec Ideal S128x384 .f32 := if u = 0 then biasLo c else biasHi c
/-- The block of batch `b`, group of rows `u`, head `h`. -/
def blockAt (c : Dev nD) (b u : Fin 2) (h : Fin 4) : FVec Ideal S128x64 .f32 :=
  head (biasOf c u) (extractStridedSlice S128x64 ![b.val * 256 + u.val * 128, h.val * 64] (qAll m c) (slices_q b u h))
    (kA m c b.val (u.val * 128) (h.val * 64) (inb_box b u h)) (vA m c b.val (u.val * 128) (h.val * 64) (inb_box b u h))
/-- Four blocks side by side: 128 rows of all heads. -/
def rowsAt (c : Dev nD) (b u : Fin 2) : FVec Ideal S128x256 .f32 :=
  concatenate S128x256 1 [⟨S128x64, blockAt m c b u 0⟩, ⟨S128x64, blockAt m c b u 1⟩, ⟨S128x64, blockAt m c b u 2⟩, ⟨S128x64, blockAt m c b u 3⟩] concatenates_S128x64_S128x64_S128x64_S128x64_S128x256_d1
/-- Four groups of rows one below the other. -/
def contextAt (c : Dev nD) : FVec Ideal S512x256 .f32 :=
  concatenate S512x256 0 [⟨S128x256, rowsAt m c 0 0⟩, ⟨S128x256, rowsAt m c 0 1⟩, ⟨S128x256, rowsAt m c 1 0⟩, ⟨S128x256, rowsAt m c 1 1⟩] concatenates_S128x256_S128x256_S128x256_S128x256_S512x256_d0

theorem ctx00_eq (c : Dev nD) : ctx00 m c = rowsAt m c 0 0 := rfl
theorem ctx10_eq (c : Dev nD) : ctx10 m c = rowsAt m c 1 0 := rfl
theorem ctx01_eq (c : Dev nD) : ctx01 m c = rowsAt m c 0 1 := rfl
theorem outAt_eq (c : Dev nD) : outAt m c =
    (shapeCast S2x256x512 (matmul dot_S512x256_S256x512_S512x512_1_0_0_1_n_n none (truncf .bf16 (contextAt m c) bitsLt_bf16_f32) (truncf .bf16 (shapeCast S256x512 (wost m c) shapeCasts_S256x512_S256x512) bitsLt_bf16_f32) (constant S512x512 .f32 0x00000000#32)) shapeCasts_S512x512_S2x256x512 : FVec Ideal S2x256x512 .f32) := rfl

theorem rowsAt_at (c : Dev nD) (b u : Fin 2) (i : Fin 128) (h : Fin 4) (d : Fin 64) :
    rowsAt m c b u (ix2 i (⟨h.val * 64 + d.val, by omega⟩ : Fin 256)) = blockAt m c b u h (ix2 i d) := by
  have hd := d.isLt
  pointwise [rowsAt]
  fin_cases h <;> simp [show 128 + d.val - 64 - 64 = d.val by omega, show 192 + d.val - 64 - 64 - 64 = d.val by omega]
  · rw [dif_neg (by omega), dif_neg (by omega)]
  · rw [dif_neg (by omega), dif_neg (by omega), dif_neg (by omega)]
theorem contextAt_at (c : Dev nD) (b u : Fin 2) (i : Fin 128) (e : Fin 256) :
    contextAt m c (ix2 (⟨b.val * 256 + u.val * 128 + i.val, by omega⟩ : Fin 512) e) = rowsAt m c b u (ix2 i e) := by
  have hi := i.isLt
  pointwise [contextAt]
  fin_cases b <;> fin_cases u <;> simp [show 256 + i.val - 128 - 128 = i.val by omega, show 384 + i.val - 128 - 128 - 128 = i.val by omega]
  · rw [dif_neg (by omega), dif_neg (by omega)]
  · rw [dif_neg (by omega), dif_neg (by omega), dif_neg (by omega)]
theorem outAt_at (c : Dev nD) (b : Fin 2) (i : Fin 256) (n : Fin 512) :
    outAt m c (ix3 b i n) = ∑ e : Fin 256, contextAt m c (ix2 (⟨b.val * 256 + i.val, by omega⟩ : Fin 512) e) * wost m c (ix2 e n) := by
  rw [outAt_eq]
  pointwise []

end Cert.KernelIdeal.Halo

end
-- ==== Proof.Math.Bias.lean ====
/-
The masks the kernel adds to its scores: 0 where the key is near the query and inside the sequence, −∞ elsewhere.
-/
module

public import proofs.«01_k».proof.Proof.Math.Head
public import Idealize.ShloMosaic.Lib.WordArith

@[expose] public section

noncomputable section

namespace Cert.KernelIdeal.Halo

open Cert.KernelIdeal Cert.KernelIdeal.Gen Idealize.ShloMosaic Idealize.ShloMosaic.TcCoe

theorem meW_eq (c : Dev nD) : meW c = BitVec.ofNat 32 c.val := by
  revert c; decide +kernel

/-- Key `t` of the 384 that a group of rows reads is at most 128 rows away from query `i` of the group, and it is a row of
    the sequence rather than one carried around its end. -/
def Seen (c : Dev nD) (u : Fin 2) (i : Fin 128) (t : Fin 384) : Prop :=
  i.val ≤ t.val ∧ t.val ≤ i.val + 256 ∧ 128 ≤ 256 * c.val + 128 * u.val + t.val ∧ 256 * c.val + 128 * u.val + t.val < 4224
instance (c : Dev nD) (u : Fin 2) (i : Fin 128) (t : Fin 384) : Decidable (Seen c u i t) := by unfold Seen; infer_instance

theorem mask_named : (Named.named κ "mask" 0xCE6E6B28#32 : Ideal .f32) = (⊥ : EReal) := rfl

theorem select_mask (R G : BitVec 32) (a b : EReal) :
    Scalar.select (IntOp.andi (IntOp.andi (IntOp.andi (IntOp.cmpi .sge R 0#32) (IntOp.cmpi .sle R 256#32)) (IntOp.cmpi .sge G 0#32)) (IntOp.cmpi .slt G 4096#32)) a b
      = if 0 ≤ R.toInt ∧ R.toInt ≤ 256 ∧ 0 ≤ G.toInt ∧ G.toInt < 4096 then a else b := by
  simp only [IntOp.cmpi, WordArith.andi_ofBool, Scalar.select, WordArith.ofBool_eq_numeral_one_iff, Bool.and_eq_true, BitVec.sle, BitVec.slt, decide_eq_true_eq, and_assoc]
  rfl

theorem toInt_diff (i : Fin 128) (t : Fin 384) (o : ℕ) (ho : o < 1000) :
    (IntOp.subi (IntOp.addi (BitVec.ofNat 32 t.val) (BitVec.ofNat 32 o)) (IntOp.addi (BitVec.ofNat 32 i.val) (BitVec.ofNat 32 o))).toInt = (t.val : ℤ) - i.val := by
  show ((BitVec.ofNat 32 t.val + BitVec.ofNat 32 o) - (BitVec.ofNat 32 i.val + BitVec.ofNat 32 o) : BitVec 32).toInt = _
  have hi := i.isLt
  have ht := t.isLt
  rw [BitVec.toInt_eq_toNat_cond]
  simp only [BitVec.toNat_sub, BitVec.toNat_add, BitVec.toNat_ofNat]
  omega
theorem toInt_key (c : Dev nD) (t : Fin 384) (o : ℕ) (ho : o < 1000) :
    (IntOp.addi (Scalar.subi (Scalar.muli (meW c) 256#32) 128#32) (IntOp.addi (BitVec.ofNat 32 t.val) (BitVec.ofNat 32 o))).toInt = 256 * (c.val : ℤ) - 128 + t.val + o := by
  rw [meW_eq]
  show ((BitVec.ofNat 32 c.val * 256#32 - 128#32) + (BitVec.ofNat 32 t.val + BitVec.ofNat 32 o) : BitVec 32).toInt = _
  have hc : c.val < 16 := c.isLt
  have ht := t.isLt
  rw [BitVec.toInt_eq_toNat_cond]
  simp only [BitVec.toNat_sub, BitVec.toNat_add, BitVec.toNat_mul, BitVec.toNat_ofNat]
  omega

theorem biasOf_at (c : Dev nD) (u : Fin 2) (i : Fin 128) (t : Fin 384) :
    biasOf c u (ix2 i t) = if Seen c u i t then (0 : EReal) else ⊥ := by
  have hc : c.val < 16 := c.isLt
  have ht := t.isLt
  fin_cases u
  · show (k0_pay10 (k0_pay7 (meW c)) k0_pay8 k0_pay9 : FVec Ideal S128x384 .f32) (ix2 i t) = _
    pointwise [k0_pay10, k0_pay9, k0_pay7, k0_pay8, k0_pay6]
    rw [mask_named, select_mask, toInt_diff i t 0 (by omega), toInt_key c t 0 (by omega)]
    refine if_congr ?_ rfl rfl
    simp only [Seen]
    omega
  · show (k0_pay11 (meW c) : FVec Ideal S128x384 .f32) (ix2 i t) = _
    pointwise [k0_pay11]
    rw [mask_named, select_mask, toInt_diff i t 128 (by omega), toInt_key c t 128 (by omega)]
    refine if_congr ?_ rfl rfl
    simp only [Seen]
    omega

end Cert.KernelIdeal.Halo

end
-- ==== Proof.Math.Arrays.lean ====
/-
What the kernel's arrays hold, element by element, when every device holds its block of the whole arrays.
-/
module

public import proofs.«01_k».proof.Proof.Math.Head
public import Idealize.ShloMosaic.Lib.Pipeline.ValueKit

@[expose] public section

noncomputable section

namespace Cert.KernelIdeal.Halo

open Cert.KernelIdeal Cert.KernelIdeal.Gen Idealize.ShloMosaic Idealize.ShloMosaic.TcCoe

abbrev S2x4096x4x64 : Shape := ⟨4, ![2, 4096, 4, 64]⟩
abbrev S2x4096x512 : Shape := ⟨3, ![2, 4096, 512]⟩

variable (m : (ℓ : Loc nD τ sig) → Buf (Elt Ideal) ℓ)

/-! ## The staged inputs are the arguments -/

theorem xst_eq (c : Dev nD) : xst m c = m ((c : Thread nD τ).loc main_arg0) := by
  funext i
  unfold xst
  refine congrArg (m ((c : Thread nD τ).loc main_arg0)) (?_ : (win0_0.blk (0 : Fin 1)).view.emb i = i)
  have h0 : ∀ a, win0_0.index (0 : Fin 1) a = 0 := fun _ => rfl
  blk_ext [h0]
theorem wqst_eq (c : Dev nD) : wqst m c = m ((c : Thread nD τ).loc main_arg1) := by
  funext i
  unfold wqst
  refine congrArg (m ((c : Thread nD τ).loc main_arg1)) (?_ : (win0_1.blk (0 : Fin 1)).view.emb i = i)
  have h0 : ∀ a, win0_1.index (0 : Fin 1) a = 0 := fun _ => rfl
  blk_ext [h0]
theorem kst_eq (c : Dev nD) : kst m c = m ((c : Thread nD τ).loc main_arg2) := by
  funext i
  unfold kst
  refine congrArg (m ((c : Thread nD τ).loc main_arg2)) (?_ : (win0_2.blk (0 : Fin 1)).view.emb i = i)
  have h0 : ∀ a, win0_2.index (0 : Fin 1) a = 0 := fun _ => rfl
  blk_ext [h0]
theorem vst_eq (c : Dev nD) : vst m c = m ((c : Thread nD τ).loc main_arg3) := by
  funext i
  unfold vst
  refine congrArg (m ((c : Thread nD τ).loc main_arg3)) (?_ : (win0_3.blk (0 : Fin 1)).view.emb i = i)
  have h0 : ∀ a, win0_3.index (0 : Fin 1) a = 0 := fun _ => rfl
  blk_ext [h0]
theorem wost_eq (c : Dev nD) : wost m c = m ((c : Thread nD τ).loc main_arg4) := by
  funext i
  unfold wost
  refine congrArg (m ((c : Thread nD τ).loc main_arg4)) (?_ : (win0_4.blk (0 : Fin 1)).view.emb i = i)
  have h0 : ∀ a, win0_4.index (0 : Fin 1) a = 0 := fun _ => rfl
  blk_ext [h0]

/-! ## The arrays at an index -/

theorem pay5_at (W : FVec Ideal S512x256 .f32) (X : FVec Ideal S2x256x512 .f32) (b u : Fin 2) (i : Fin 128) (e : Fin 256) :
    (k0_pay5 (F := Ideal) W X (ix2 (⟨b.val * 256 + u.val * 128 + i.val, by omega⟩ : Fin 512) e) : EReal)
      = ∑ x : Fin 512, X (ix3 b (⟨u.val * 128 + i.val, by omega⟩ : Fin 256) x) * (W (ix2 x e) * Ideal.ofBits .f32 0x3E000000#32) := by
  have hi := i.isLt
  pointwise [k0_pay5]
  have h2 : (⟨(b.val * 256 + u.val * 128 + i.val) % 256, by omega⟩ : Fin 256) = ⟨u.val * 128 + i.val, by omega⟩ := Fin.ext (by show (b.val * 256 + u.val * 128 + i.val) % 256 = u.val * 128 + i.val; omega)
  rw [h2]
theorem kown_at (c : Dev nD) (b : Fin 2) (r : Fin 256) (h : Fin 4) (d : Fin 64) :
    kown m c (ix3 b r (⟨h.val * 64 + d.val, by omega⟩ : Fin 256)) = kst m c (ix4 b r h d) := by
  have hd := d.isLt
  pointwise [kown, k0_pay2]
theorem vown_at (c : Dev nD) (b : Fin 2) (r : Fin 256) (h : Fin 4) (d : Fin 64) :
    vown m c (ix3 b r (⟨h.val * 64 + d.val, by omega⟩ : Fin 256)) = vst m c (ix4 b r h d) := by
  have hd := d.isLt
  pointwise [vown, k0_pay4, k0_pay3]

/-! ## In terms of the whole arrays -/

/-- Row `r` of the 512 that device `c` gathers, as a row of the sequence closed into a ring. -/
def seqRow (c : Dev nD) (r : ℕ) : Fin 4096 := ⟨(256 * c.val + r + 3968) % 4096, Nat.mod_lt _ (by decide)⟩

theorem block4_at {α : Type} (c : Dev nD) (v : S2x4096x4x64.Idx → α) (h : Layout.Tiles S2x256x4x64 S2x4096x4x64 1 16) (b : Fin 2) (r : Fin 256) (n : Fin 4) (d : Fin 64) :
    Layout.block S2x256x4x64 S2x4096x4x64 1 16 c v h (ix4 b r n d)
      = v (ix4 b (⟨256 * c.val + r.val, by have : c.val < 16 := c.isLt; omega⟩ : Fin 4096) n d) := by
  refine congrArg v (funext fun a => Fin.ext ?_)
  rw [Layout.Tiles.idx_val]
  fin_cases a <;> simp [ix4, Nat.mul_comm]
theorem block3_at {α : Type} (c : Dev nD) (v : S2x4096x512.Idx → α) (h : Layout.Tiles S2x256x512 S2x4096x512 1 16) (b : Fin 2) (r : Fin 256) (n : Fin 512) :
    Layout.block S2x256x512 S2x4096x512 1 16 c v h (ix3 b r n)
      = v (ix3 b (⟨256 * c.val + r.val, by have : c.val < 16 := c.isLt; omega⟩ : Fin 4096) n) := by
  refine congrArg v (funext fun a => Fin.ext ?_)
  rw [Layout.Tiles.idx_val]
  fin_cases a <;> simp [ix3, Nat.mul_comm]

/-- Three neighbours' blocks of an array make the rows around one of them. -/
theorem halo_at (f : Dev nD → FVec Ideal S2x256x256 .bf16) (g : S2x4096x4x64.Idx → EReal) (b : Fin 2) (h : Fin 4) (d : Fin 64)
    (hf : ∀ (c : Dev nD) (r : Fin 256), f c (ix3 b r (⟨h.val * 64 + d.val, by omega⟩ : Fin 256)) = g (ix4 b (⟨256 * c.val + r.val, by have : c.val < 16 := c.isLt; omega⟩ : Fin 4096) h d))
    (c : Dev nD) (r : Fin 512) :
    halo (f (prv c)) (f c) (f (nxt c)) (ix3 b r (⟨h.val * 64 + d.val, by omega⟩ : Fin 256)) = g (ix4 b (seqRow c r.val) h d) := by
  have hc : c.val < 16 := c.isLt
  have hr := r.isLt
  have row : ∀ (q : ℕ) (hq : q < 256), atRow (ix3 b r (⟨h.val * 64 + d.val, by omega⟩ : Fin 256)) q hq = ix3 b (⟨q, hq⟩ : Fin 256) (⟨h.val * 64 + d.val, by omega⟩ : Fin 256) := by
    intro q hq; funext a; fin_cases a <;> rfl
  show (if h1 : r.val < 128 then _ else if h2 : r.val < 384 then _ else _) = _
  split_ifs with h1 h2
  · refine (congrArg (f (prv c)) (row (r.val + 128) (by omega))).trans ((hf _ _).trans (congrArg (fun s => g (ix4 b s h d)) (Fin.ext ?_)))
    show 256 * ((c.val + 15) % 16) + (r.val + 128) = (256 * c.val + r.val + 3968) % 4096
    omega
  · refine (congrArg (f c) (row (r.val - 128) (by omega))).trans ((hf _ _).trans (congrArg (fun s => g (ix4 b s h d)) (Fin.ext ?_)))
    show 256 * c.val + (r.val - 128) = (256 * c.val + r.val + 3968) % 4096
    omega
  · refine (congrArg (f (nxt c)) (row (r.val - 384) (by omega))).trans ((hf _ _).trans (congrArg (fun s => g (ix4 b s h d)) (Fin.ext ?_)))
    show 256 * ((c.val + 1) % 16) + (r.val - 384) = (256 * c.val + r.val + 3968) % 4096
    omega

end Cert.KernelIdeal.Halo

end
-- ==== Proof.Math.RefValue.lean ====
/-
What the reference computes, element by element: its stages named in program order, and each read at an index.
-/
module

public import proofs.«01_k».proof.Proof.Gen.ReferenceIdeal.Run
public import Idealize.ShloMosaic.Lib.Pointwise

@[expose] public section

noncomputable section

namespace Cert.ReferenceIdeal.Value

open Cert.ReferenceIdeal Cert.ReferenceIdeal.Gen Idealize.ShloMosaic Idealize.ShloMosaic.TcCoe

variable (X : FVec Ideal S2x4096x512 .f32) (Wq : FVec Ideal S512x256 .f32) (K V : FVec Ideal S2x4096x4x64 .f32)
  (Wo : FVec Ideal S256x512 .f32)

/-! ## The stages -/

def queries : FVec Ideal S2x4096x4x64 .f32 :=
  shapeCast _ (Host.dotGeneral dot_S2x4096x512_S512x256_S2x4096x256_2_0_01_1_n_n none X Wq) shapeCasts_S2x4096x256_S2x4096x4x64
def near : IVec S4096x4096 1 :=
  cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 128#32))
def scores : FVec Ideal S2x4x4096x4096 .f32 :=
  mulf (Host.dotGeneral dot_S2x4096x4x64_S2x4096x4x64_S2x4x4096x4096_3_3_1_1_02_02 none (queries X Wq) K) (broadcastInDim S2x4x4096x4096 ![] bcast_S_S2x4x4096x4096 (constant S_ .f32 0x3E000000#32))
def masked : FVec Ideal S2x4x4096x4096 .f32 :=
  select (broadcastInDim S2x4x4096x4096 ![0, 1, 2, 3] bcast_S1x1x4096x4096_S2x4x4096x4096_0_1_2_3 (broadcastInDim S1x1x4096x4096 ![2, 3] bcast_S4096x4096_S1x1x4096x4096_2_3 near)) (scores X Wq K) (broadcastInDim S2x4x4096x4096 ![] bcast_S_S2x4x4096x4096 (id (constant S_ .f32 0xFF800000#32)))
def rowMax : FVec Ideal S2x4x4096 .f32 :=
  Host.reduce FloatOps.maximumf (masked X Wq K) (constant S_ .f32 0xFF800000#32) reducesTo_S2x4x4096x4096_S2x4x4096_d3 h_S_
def weights : FVec Ideal S2x4x4096x4096 .f32 :=
  Host.exp (subf (masked X Wq K) (broadcastInDim S2x4x4096x4096 ![0, 1, 2, 3] bcast_S2x4x4096x1_S2x4x4096x4096_0_1_2_3 (broadcastInDim S2x4x4096x1 ![0, 1, 2] bcast_S2x4x4096_S2x4x4096x1_0_1_2 (rowMax X Wq K))))
def anyNear : IVec S4096 1 :=
  Host.reduce IntOp.ori near (constantI S_ 1 0#1) reducesTo_S4096x4096_S4096_d1 h_S_
def rowSum : FVec Ideal S2x4x4096 .f32 :=
  Host.reduceAdd (weights X Wq K) (constant S_ .f32 0x00000000#32) reducesTo_S2x4x4096x4096_S2x4x4096_d3 h_S_
def rowDiv : FVec Ideal S2x4x4096x1 .f32 :=
  select (broadcastInDim S2x4x4096x1 ![0, 1, 2, 3] bcast_S1x1x4096x1_S2x4x4096x1_0_1_2_3 (broadcastInDim S1x1x4096x1 ![2] bcast_S4096_S1x1x4096x1_2 anyNear)) (broadcastInDim S2x4x4096x1 ![0, 1, 2] bcast_S2x4x4096_S2x4x4096x1_0_1_2 (rowSum X Wq K)) (broadcastInDim S2x4x4096x1 ![] bcast_S_S2x4x4096x1 (id (constant S_ .f32 0x3F800000#32)))
def anyNearAll : IVec S2x4x4096x4096 1 :=
  broadcastInDim S2x4x4096x4096 ![0, 1, 2, 3] bcast_S1x1x4096x1_S2x4x4096x4096_0_1_2_3 (broadcastInDim S1x1x4096x1 ![2] bcast_S4096_S1x1x4096x1_2 anyNear)
def rowDivAll : FVec Ideal S2x4x4096x4096 .f32 :=
  broadcastInDim S2x4x4096x4096 ![0, 1, 2, 3] bcast_S2x4x4096x1_S2x4x4096x4096_0_1_2_3 (rowDiv X Wq K)
def zeroAll : FVec Ideal S2x4x4096x4096 .f32 :=
  broadcastInDim S2x4x4096x4096 ![] bcast_S_S2x4x4096x4096 (id (constant S_ .f32 0x00000000#32))
def shares : FVec Ideal S2x4x4096x4096 .f32 :=
  select anyNearAll (Host.divf (weights X Wq K) (rowDivAll X Wq K)) zeroAll
def context : FVec Ideal S2x4x64x4096 .f32 :=
  Host.dotGeneral dot_S2x4096x4x64_S2x4x4096x4096_S2x4x64x4096_1_3_3_2_02_01 none V (shares X Wq K)
def answer : FVec Ideal S2x4096x512 .f32 :=
  Host.dotGeneral dot_S2x4096x256_S256x512_S2x4096x512_2_0_01_1_n_n none (shapeCast _ (transpose S2x4096x4x64 [0, 3, 1, 2] (context X Wq K V) transposes_S2x4x64x4096_S2x4096x4x64_0_3_1_2) shapeCasts_S2x4096x4x64_S2x4096x256) Wo

/-- The run's result is the last stage. -/
theorem res_eq (m : (ℓ : Loc nD τ sig) → Buf (Elt Ideal) ℓ) (c : Dev nD) :
    res_out0 m c = answer (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## Each stage at an index -/

theorem queries_at (b : Fin 2) (i : Fin 4096) (h : Fin 4) (d : Fin 64) :
    queries X Wq (ix4 b i h d) = ∑ x : Fin 512, X (ix3 b i x) * Wq (ix2 x (⟨h.val * 64 + d.val, by omega⟩ : Fin 256)) := by
  pointwise [queries]
theorem near_word (i j : Fin 4096) :
    near (ix2 i j) = IntOp.cmpi .sle (IntOp.absi (IntOp.subi (BitVec.ofNat 32 i.val) (BitVec.ofNat 32 j.val))) 128#32 := by
  pointwise [near]
theorem scores_at (b : Fin 2) (h : Fin 4) (i j : Fin 4096) :
    scores X Wq K (ix4 b h i j) = (∑ x : Fin 64, queries X Wq (ix4 b i h x) * K (ix4 b j h x)) * Ideal.ofBits .f32 0x3E000000#32 := by
  pointwise [scores]
theorem masked_at (b : Fin 2) (h : Fin 4) (i j : Fin 4096) :
    masked X Wq K (ix4 b h i j) = Scalar.select (near (ix2 i j)) (scores X Wq K (ix4 b h i j)) (Ideal.ofBits .f32 0xFF800000#32) := by
  pointwise [masked]
  rfl
theorem rowMax_at (b : Fin 2) (h : Fin 4) (i : Fin 4096) :
    rowMax X Wq K (ix3 b h i) = Finset.fold max (Ideal.ofBits .f32 0xFF800000#32) (fun x => masked X Wq K (ix4 b h i x)) Finset.univ := by
  pointwise [rowMax]
theorem weights_at (b : Fin 2) (h : Fin 4) (i j : Fin 4096) :
    weights X Wq K (ix4 b h i j) = Ideal.exp (masked X Wq K (ix4 b h i j) - rowMax X Wq K (ix3 b h i)) := by
  pointwise [weights]
theorem anyNear_at (i : Fin 4096) :
    anyNear (ix1 i) = Finset.fold IntOp.ori 0#1 (fun x => near (ix2 i x)) Finset.univ := by
  pointwise [anyNear]
theorem rowSum_at (b : Fin 2) (h : Fin 4) (i : Fin 4096) :
    rowSum X Wq K (ix3 b h i) = ∑ x : Fin 4096, weights X Wq K (ix4 b h i x) := by
  pointwise [rowSum]
theorem rowDiv_at (b : Fin 2) (h : Fin 4) (i : Fin 4096) :
    rowDiv X Wq K (ix4 b h i (0 : Fin 1)) = Scalar.select (anyNear (ix1 i)) (rowSum X Wq K (ix3 b h i)) ((id (constant S_ .f32 0x3F800000#32) : FVec Ideal S_ .f32) ix0) := by
  pointwise [rowDiv]
theorem anyNearAll_at (b : Fin 2) (h : Fin 4) (i j : Fin 4096) : anyNearAll (ix4 b h i j) = anyNear (ix1 i) := by
  pointwise [anyNearAll]
theorem rowDivAll_at (b : Fin 2) (h : Fin 4) (i j : Fin 4096) : rowDivAll X Wq K (ix4 b h i j) = rowDiv X Wq K (ix4 b h i (0 : Fin 1)) := by
  pointwise [rowDivAll]
theorem select_div_at (A : IVec S2x4x4096x4096 1) (W D Z : FVec Ideal S2x4x4096x4096 .f32) (e : S2x4x4096x4096.Idx) :
    select A (Host.divf W D) Z e = Scalar.select (A e) (Ideal.div (W e) (D e)) (Z e) := rfl
theorem shares_at (e : S2x4x4096x4096.Idx) :
    shares X Wq K e = Scalar.select (anyNearAll e) (Ideal.div (weights X Wq K e) (rowDivAll X Wq K e)) (zeroAll e) := by
  unfold shares
  exact select_div_at _ _ _ _ _
theorem context_at (b : Fin 2) (h : Fin 4) (d : Fin 64) (i : Fin 4096) :
    context X Wq K V (ix4 b h d i) = ∑ x : Fin 4096, V (ix4 b x h d) * shares X Wq K (ix4 b h i x) := by
  pointwise [context]
theorem answer_at (b : Fin 2) (i : Fin 4096) (n : Fin 512) :
    answer X Wq K V Wo (ix3 b i n)
      = ∑ x : Fin 256, context X Wq K V (ix4 b (⟨x.val / 64, by omega⟩ : Fin 4) (⟨x.val % 64, by omega⟩ : Fin 64) i) * Wo (ix2 x n) := by
  pointwise [answer]

end Cert.ReferenceIdeal.Value

end
-- ==== Proof.Math.Softmax.lean ====
/-
Weights over a row of scores of which some are masked: taking the row's maximum off before the exponential, and dividing
each weight rather than the weighted sum, change nothing.
-/
module

public import Idealize.ShloMosaic.PureOps.Ideal
public import Mathlib.Data.EReal.Inv
public import Mathlib.Data.Finset.Fold
public import Mathlib.Algebra.BigOperators.Fin
public import Mathlib.Algebra.BigOperators.Group.Finset.Basic

@[expose] public section

noncomputable section

namespace Cert.Softmax

open Idealize.ShloMosaic

variable {ι : Type} [Fintype ι]

/-- A finite sum of reals is the same real in the extended reals. -/
theorem coe_sum (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A nonnegative real factor comes out of a sum of extended reals. -/
theorem sum_mul_coe (f : ι → EReal) {c : ℝ} (hc : 0 ≤ c) : (∑ i, f i) * (c : EReal) = ∑ i, f i * (c : EReal) := by
  classical
  induction (Finset.univ : Finset ι) using Finset.induction_on with
  | empty => simp
  | insert a s ha ih =>
    rw [Finset.sum_insert ha, Finset.sum_insert ha,
      EReal.right_distrib_of_nonneg_of_ne_top (by exact_mod_cast hc) (EReal.coe_ne_top c), ih]

/-- The weight of an element: the exponential of its score where it is not masked, 0 where it is. -/
def weight (P : ι → Prop) [DecidablePred P] (σ : ι → ℝ) (j : ι) : ℝ := if P j then Real.exp (σ j) else 0

/-- The weighted mean of `v`: the weighted sum over the sum of the weights. -/
def mean (P : ι → Prop) [DecidablePred P] (σ : ι → ℝ) (v : ι → EReal) : EReal :=
  Ideal.div (∑ j, (weight P σ j : EReal) * v j) (∑ j, (weight P σ j : EReal))

variable (P : ι → Prop) [DecidablePred P] (σ : ι → ℝ) (v : ι → EReal)

theorem weight_nonneg (j : ι) : 0 ≤ weight P σ j := by
  unfold weight; split <;> positivity

theorem sum_weight_pos {j₀ : ι} (h : P j₀) : 0 < ∑ j, weight P σ j :=
  Finset.sum_pos' (fun j _ => weight_nonneg P σ j) ⟨j₀, Finset.mem_univ _, by simp [weight, h, Real.exp_pos]⟩

theorem div_coe (x : EReal) {y : ℝ} (hy : y ≠ 0) : Ideal.div x (y : EReal) = x * ((y⁻¹ : ℝ) : EReal) := by
  rw [Ideal.div, if_neg (by exact_mod_cast hy), EReal.coe_inv]

/-- The maximum of a row with an unmasked element is a real number. -/
theorem rowMax_real {j₀ : ι} (h : P j₀) :
    ∃ μ : ℝ, Finset.fold max (⊥ : EReal) (fun j => if P j then (σ j : EReal) else ⊥) Finset.univ = (μ : EReal) := by
  have h1 : Finset.fold max (⊥ : EReal) (fun j => if P j then (σ j : EReal) else ⊥) Finset.univ ≠ ⊤ :=
    ((Finset.fold_max_lt _).mpr ⟨bot_lt_top, fun j _ => by split <;> simp [EReal.coe_lt_top]⟩).ne
  have h2 : Finset.fold max (⊥ : EReal) (fun j => if P j then (σ j : EReal) else ⊥) Finset.univ ≠ ⊥ := by
    have : (σ j₀ : EReal) ≤ Finset.fold max (⊥ : EReal) (fun j => if P j then (σ j : EReal) else ⊥) Finset.univ :=
      (Finset.le_fold_max _).mpr (Or.inr ⟨j₀, Finset.mem_univ _, by simp [h]⟩)
    exact ((EReal.bot_lt_coe _).trans_le this).ne'
  exact ⟨_, (EReal.coe_toReal h1 h2).symm⟩

/-- The exponential of a score less the row's maximum is the weight times a common factor. -/
theorem exp_sub (μ : ℝ) (j : ι) :
    Ideal.exp ((if P j then (σ j : EReal) else ⊥) - (μ : EReal)) = ((weight P σ j * Real.exp (-μ) : ℝ) : EReal) := by
  unfold weight
  split
  · rw [← EReal.coe_sub, sub_eq_add_neg, ← Real.exp_add]; rfl
  · rw [EReal.bot_sub, zero_mul]; rfl

/-- The shares of a row, each weight over the sum of the weights, with the maximum taken off first, weigh `v` to its
    weighted mean. -/
theorem shares_mean {j₀ : ι} (h : P j₀) :
    ∑ j, v j * Ideal.div
        (Ideal.exp ((if P j then (σ j : EReal) else ⊥) - Finset.fold max (⊥ : EReal) (fun j => if P j then (σ j : EReal) else ⊥) Finset.univ))
        (∑ j, Ideal.exp ((if P j then (σ j : EReal) else ⊥) - Finset.fold max (⊥ : EReal) (fun j => if P j then (σ j : EReal) else ⊥) Finset.univ))
      = mean P σ v := by
  obtain ⟨μ, hμ⟩ := rowMax_real P σ h
  have hD := sum_weight_pos P σ h
  have he := Real.exp_pos (-μ)
  simp only [hμ, exp_sub, ← coe_sum, mean, ← Finset.sum_mul]
  rw [div_coe _ hD.ne', sum_mul_coe _ (inv_nonneg.mpr hD.le)]
  refine Finset.sum_congr rfl fun j _ => ?_
  have hr : weight P σ j * Real.exp (-μ) * ((∑ j, weight P σ j) * Real.exp (-μ))⁻¹ = weight P σ j * (∑ j, weight P σ j)⁻¹ := by
    field_simp
  rw [div_coe _ (mul_pos hD he).ne', ← EReal.coe_mul, hr, EReal.coe_mul, mul_comm (v j), mul_right_comm]

/-- A weighted mean over a larger index set whose unmasked elements are all in the range of an injection. -/
theorem mean_comp {κ : Type} [Fintype κ] (Q : κ → Prop) [DecidablePred Q] (f : κ → ι) (hf : Function.Injective f)
    (hQ : ∀ t, Q t ↔ P (f t)) (hP : ∀ j, P j → ∃ t, f t = j) :
    mean Q (fun t => σ (f t)) (fun t => v (f t)) = mean P σ v := by
  have hw : ∀ t, weight Q (fun t => σ (f t)) t = weight P σ (f t) := fun t => if_congr (hQ t) rfl rfl
  have h0 : ∀ j, j ∉ Set.range f → weight P σ j = 0 := fun j hj => if_neg fun h => hj (hP j h)
  unfold mean
  rw [Fintype.sum_of_injective f hf (fun t => (weight Q (fun t => σ (f t)) t : EReal) * v (f t)) (fun j => (weight P σ j : EReal) * v j)
      (fun j hj => by simp [h0 j hj]) (fun t => by rw [hw]),
    Fintype.sum_of_injective f hf (fun t => (weight Q (fun t => σ (f t)) t : EReal)) (fun j => (weight P σ j : EReal))
      (fun j hj => by simp [h0 j hj]) (fun t => by rw [hw])]

/-- Adding 0 to an unmasked score and −∞ to a masked one, then taking the exponential, gives the weight. -/
theorem exp_add (s : ℝ) (Q : Prop) [Decidable Q] :
    Ideal.exp ((s : EReal) + (if Q then (0 : EReal) else ⊥)) = ((if Q then Real.exp s else 0 : ℝ) : EReal) := by
  split
  · rw [add_zero]; rfl
  · rw [EReal.add_bot]; rfl

end Cert.Softmax

end
-- ==== Proof.Math.RefMean.lean ====
/-
The reference's context is a weighted mean of the values: the keys at most 128 rows away weigh the exponential of their
score, the others nothing.
-/
module

public import proofs.«01_k».proof.Proof.Math.RefValue
public import proofs.«01_k».proof.Proof.Math.Softmax

@[expose] public section

noncomputable section

namespace Cert.ReferenceIdeal.Value

open Cert.ReferenceIdeal Cert.ReferenceIdeal.Gen Idealize.ShloMosaic Idealize.ShloMosaic.TcCoe

/-- Two rows are at most 128 apart. -/
def Near (i j : Fin 4096) : Prop := i.val ≤ j.val + 128 ∧ j.val ≤ i.val + 128
instance (i j : Fin 4096) : Decidable (Near i j) := by unfold Near; infer_instance

theorem near_at (i j : Fin 4096) : near (ix2 i j) = if Near i j then 1#1 else 0#1 := by
  rw [near_word]
  have hi := i.isLt
  have hj := j.isLt
  have key : ((IntOp.absi (IntOp.subi (BitVec.ofNat 32 i.val) (BitVec.ofNat 32 j.val))).sle 128#32) = decide (Near i j) := by
    show (if (BitVec.ofNat 32 i.val - BitVec.ofNat 32 j.val).msb then -(BitVec.ofNat 32 i.val - BitVec.ofNat 32 j.val) else BitVec.ofNat 32 i.val - BitVec.ofNat 32 j.val).sle 128#32 = _
    rw [BitVec.msb_eq_decide, BitVec.sle, decide_eq_decide]
    unfold Near
    split <;> rename_i h <;> rw [BitVec.toInt_eq_toNat_cond] <;>
      simp only [BitVec.toNat_neg, BitVec.toNat_sub, BitVec.toNat_ofNat, decide_eq_true_eq, BitVec.reduceToInt] at h ⊢ <;> omega
  show BitVec.ofBool _ = _
  rw [key]
  by_cases h : Near i j <;> simp [h]

theorem near_self (i : Fin 4096) : Near i i := ⟨by omega, by omega⟩

theorem fold_ori {ι : Type} [DecidableEq ι] [Fintype ι] (f : ι → BitVec 1) (j : ι) (h : f j = 1#1) :
    Finset.fold IntOp.ori 0#1 f Finset.univ = 1#1 := by
  have one : ∀ y : BitVec 1, IntOp.ori 1#1 y = 1#1 := by decide
  rw [← Finset.insert_erase (Finset.mem_univ j), Finset.fold_insert (Finset.notMem_erase _ _), h, one]
theorem anyNear_eq (i : Fin 4096) : anyNear (ix1 i) = 1#1 := by
  rw [anyNear_at]
  exact fold_ori _ i (by rw [near_at, if_pos (near_self i)])

theorem eighth_eq : (Ideal.ofBits .f32 0x3E000000#32 : EReal) = ((1 / 8 : ℝ) : EReal) := by
  simp [Ideal.ofBits, Ideal.ieee, -EReal.coe_mul]; norm_num
theorem bot_eq : (Ideal.ofBits .f32 0xFF800000#32 : EReal) = ⊥ := by simp [Ideal.ofBits, Ideal.ieee]

/-- The score of query row `i` against key row `j`, over the reals. -/
def score (x : S2x4096x512.Idx → ℝ) (w : S512x256.Idx → ℝ) (k : S2x4096x4x64.Idx → ℝ) (b : Fin 2) (h : Fin 4) (i j : Fin 4096) : ℝ :=
  (∑ d : Fin 64, (∑ y : Fin 512, x (ix3 b i y) * w (ix2 y (⟨h.val * 64 + d.val, by omega⟩ : Fin 256))) * k (ix4 b j h d)) * (1 / 8)

variable (X : FVec Ideal S2x4096x512 .f32) (Wq : FVec Ideal S512x256 .f32) (K V : FVec Ideal S2x4096x4x64 .f32)
  (x : S2x4096x512.Idx → ℝ) (w : S512x256.Idx → ℝ) (k : S2x4096x4x64.Idx → ℝ)
  (hX : ∀ i, X i = (x i : EReal)) (hW : ∀ i, Wq i = (w i : EReal)) (hK : ∀ i, K i = (k i : EReal))

include hX hW hK

theorem scores_real (b : Fin 2) (h : Fin 4) (i j : Fin 4096) : scores X Wq K (ix4 b h i j) = (score x w k b h i j : EReal) := by
  rw [scores_at, eighth_eq]
  simp only [queries_at, hX, hW, hK, ← EReal.coe_mul, ← Softmax.coe_sum, score]
theorem masked_real (b : Fin 2) (h : Fin 4) (i j : Fin 4096) :
    masked X Wq K (ix4 b h i j) = if Near i j then (score x w k b h i j : EReal) else ⊥ := by
  rw [masked_at, near_at, scores_real X Wq K x w k hX hW hK, bot_eq]
  by_cases h : Near i j <;> simp [h, Scalar.select]
theorem context_mean (b : Fin 2) (h : Fin 4) (d : Fin 64) (i : Fin 4096) :
    context X Wq K V (ix4 b h d i) = Softmax.mean (fun j => Near i j) (score x w k b h i) (fun j => V (ix4 b j h d)) := by
  rw [context_at, ← Softmax.shares_mean (fun j => Near i j) (score x w k b h i) (fun j => V (ix4 b j h d)) (near_self i)]
  refine Finset.sum_congr rfl fun j _ => ?_
  rw [shares_at, anyNearAll_at, anyNear_eq, rowDivAll_at, rowDiv_at, anyNear_eq, rowSum_at]
  simp only [weights_at, rowMax_at, masked_real X Wq K x w k hX hW hK, bot_eq]
  rfl

end Cert.ReferenceIdeal.Value

end
-- ==== Proof.Math.KernelMean.lean ====
/-
The kernel's output is its block of the reference's answer: its blocks of attention are the reference's weighted means,
over the 384 rows that a group of 128 queries can see instead of over all rows.
-/
module

public import proofs.«01_k».proof.Proof.Math.Bias
public import proofs.«01_k».proof.Proof.Math.Arrays
public import proofs.«01_k».proof.Proof.Math.RefMean

@[expose] public section

noncomputable section

namespace Cert.KernelIdeal.Halo

open Cert.KernelIdeal Cert.KernelIdeal.Gen Idealize.ShloMosaic Idealize.ShloMosaic.TcCoe
open Cert.ReferenceIdeal.Value (Near score context answer eighth_eq context_mean answer_at)

/-- An array is real where every device's block of it is. -/
theorem real_of_blocks3 (X : FVec Ideal S2x4096x512 .f32) (tX : Layout.Tiles S2x256x512 S2x4096x512 1 16)
    (h : ∀ (c : Fin 16) (i : S2x256x512.Idx), ∃ r : ℝ, Layout.block S2x256x512 S2x4096x512 1 16 c X tX i = (r : EReal)) (j : S2x4096x512.Idx) :
    ∃ r : ℝ, X j = (r : EReal) := by
  have hj : (j 1).val < 4096 := (j 1).isLt
  obtain ⟨r, hr⟩ := h ⟨(j 1).val / 256, by omega⟩ (ix3 (j 0) (⟨(j 1).val % 256, by omega⟩ : Fin 256) (j 2))
  refine ⟨r, Eq.trans (congrArg X ?_) ((block3_at (⟨(j 1).val / 256, by omega⟩ : Fin 16) X tX (j 0) (⟨(j 1).val % 256, by omega⟩ : Fin 256) (j 2)).symm.trans hr)⟩
  funext a
  fin_cases a
  · rfl
  · exact Fin.ext (by show (j 1).val = 256 * ((j 1).val / 256) + (j 1).val % 256; omega)
  · rfl
theorem real_of_blocks4 (X : FVec Ideal S2x4096x4x64 .f32) (tX : Layout.Tiles S2x256x4x64 S2x4096x4x64 1 16)
    (h : ∀ (c : Fin 16) (i : S2x256x4x64.Idx), ∃ r : ℝ, Layout.block S2x256x4x64 S2x4096x4x64 1 16 c X tX i = (r : EReal)) (j : S2x4096x4x64.Idx) :
    ∃ r : ℝ, X j = (r : EReal) := by
  have hj : (j 1).val < 4096 := (j 1).isLt
  obtain ⟨r, hr⟩ := h ⟨(j 1).val / 256, by omega⟩ (ix4 (j 0) (⟨(j 1).val % 256, by omega⟩ : Fin 256) (j 2) (j 3))
  refine ⟨r, Eq.trans (congrArg X ?_) ((block4_at (⟨(j 1).val / 256, by omega⟩ : Fin 16) X tX (j 0) (⟨(j 1).val % 256, by omega⟩ : Fin 256) (j 2) (j 3)).symm.trans hr)⟩
  funext a
  fin_cases a
  · rfl
  · exact Fin.ext (by show (j 1).val = 256 * ((j 1).val / 256) + (j 1).val % 256; omega)
  · rfl
  · rfl

/-- Query `i` of group `u` of device `c`, as a row of the sequence. -/
def queryRow (c : Dev nD) (u : Fin 2) (i : Fin 128) : Fin 4096 := ⟨256 * c.val + (u.val * 128 + i.val), by have : c.val < 16 := c.isLt; omega⟩
/-- Key `t` of the 384 that group `u` of device `c` reads, as a row of the sequence. -/
def keyRow (c : Dev nD) (u : Fin 2) (t : Fin 384) : Fin 4096 := seqRow c (u.val * 128 + t.val)

theorem keyRow_injective (c : Dev nD) (u : Fin 2) : Function.Injective (keyRow c u) := by
  intro s t h
  have h' := congrArg Fin.val h
  simp only [keyRow, seqRow] at h'
  have hs := s.isLt
  have ht := t.isLt
  exact Fin.ext (by omega)
theorem seen_iff (c : Dev nD) (u : Fin 2) (i : Fin 128) (t : Fin 384) : Seen c u i t ↔ Near (queryRow c u i) (keyRow c u t) := by
  have hc : c.val < 16 := c.isLt
  have ht := t.isLt
  have hi := i.isLt
  have hu := u.isLt
  simp only [Seen, Near, queryRow, keyRow, seqRow]
  omega
theorem near_keyRow (c : Dev nD) (u : Fin 2) (i : Fin 128) (j : Fin 4096) (h : Near (queryRow c u i) j) : ∃ t, keyRow c u t = j := by
  have hc : c.val < 16 := c.isLt
  have hj := j.isLt
  have hi := i.isLt
  have hu := u.isLt
  simp only [Near, queryRow] at h
  refine ⟨⟨j.val + 128 - 256 * c.val - u.val * 128, by omega⟩, Fin.ext ?_⟩
  simp only [keyRow, seqRow]
  omega

variable (m : (ℓ : Loc nD τ sig) → Buf (Elt Ideal) ℓ)
  (X : FVec Ideal S2x4096x512 .f32) (Wq : FVec Ideal S512x256 .f32) (K V : FVec Ideal S2x4096x4x64 .f32) (Wo : FVec Ideal S256x512 .f32)
  (tX : Layout.Tiles S2x256x512 S2x4096x512 1 16) (tK : Layout.Tiles S2x256x4x64 S2x4096x4x64 1 16)
  (hX : ∀ c : Dev nD, m ((c : Thread nD τ).loc main_arg0) = Layout.block S2x256x512 S2x4096x512 1 16 c X tX)
  (hW : ∀ c : Dev nD, m ((c : Thread nD τ).loc main_arg1) = Wq)
  (hK : ∀ c : Dev nD, m ((c : Thread nD τ).loc main_arg2) = Layout.block S2x256x4x64 S2x4096x4x64 1 16 c K tK)
  (hV : ∀ c : Dev nD, m ((c : Thread nD τ).loc main_arg3) = Layout.block S2x256x4x64 S2x4096x4x64 1 16 c V tK)
  (hO : ∀ c : Dev nD, m ((c : Thread nD τ).loc main_arg4) = Wo)
  (x : S2x4096x512.Idx → ℝ) (w : S512x256.Idx → ℝ) (k : S2x4096x4x64.Idx → ℝ)
  (rX : ∀ i, X i = (x i : EReal)) (rW : ∀ i, Wq i = (w i : EReal)) (rK : ∀ i, K i = (k i : EReal))

include hK in
theorem kfull_at (c : Dev nD) (b : Fin 2) (r : Fin 512) (h : Fin 4) (d : Fin 64) :
    kfull m c (ix3 b r (⟨h.val * 64 + d.val, by omega⟩ : Fin 256)) = K (ix4 b (seqRow c r.val) h d) :=
  halo_at (kown m) K b h d (fun c r => by rw [kown_at, kst_eq, hK]; exact block4_at c K tK b r h d) c r
include hV in
theorem vfull_at (c : Dev nD) (b : Fin 2) (r : Fin 512) (h : Fin 4) (d : Fin 64) :
    vfull m c (ix3 b r (⟨h.val * 64 + d.val, by omega⟩ : Fin 256)) = V (ix4 b (seqRow c r.val) h d) :=
  halo_at (vown m) V b h d (fun c r => by rw [vown_at, vst_eq, hV]; exact block4_at c V tK b r h d) c r
include hX hW in
theorem qAll_at (c : Dev nD) (b u : Fin 2) (i : Fin 128) (e : Fin 256) :
    qAll m c (ix2 (⟨b.val * 256 + u.val * 128 + i.val, by omega⟩ : Fin 512) e)
      = ∑ y : Fin 512, X (ix3 b (queryRow c u i) y) * (Wq (ix2 y e) * Ideal.ofBits .f32 0x3E000000#32) := by
  unfold qAll
  rw [wqst_eq, xst_eq, hX, hW]
  refine (pay5_at _ _ b u i e).trans (Finset.sum_congr rfl fun y _ => ?_)
  rw [block3_at]
  rfl

include hX hW hK rX rW rK in
theorem headExp_eq (c : Dev nD) (b u : Fin 2) (h : Fin 4) (i : Fin 128) (t : Fin 384) :
    headExp (biasOf c u) (extractStridedSlice S128x64 ![b.val * 256 + u.val * 128, h.val * 64] (qAll m c) (slices_q b u h))
        (kA m c b.val (u.val * 128) (h.val * 64) (inb_box b u h)) (ix2 i t)
      = (Softmax.weight (Seen c u i) (fun t => score x w k b h (queryRow c u i) (keyRow c u t)) t : EReal) := by
  rw [headExp_at, biasOf_at]
  have hs : (∑ d : Fin 64, extractStridedSlice S128x64 ![b.val * 256 + u.val * 128, h.val * 64] (qAll m c) (slices_q b u h) (ix2 i d)
      * kA m c b.val (u.val * 128) (h.val * 64) (inb_box b u h) (ix3 (0 : Fin 1) t d)) = (score x w k b h (queryRow c u i) (keyRow c u t) : EReal) := by
    have hd : ∀ d : Fin 64, extractStridedSlice S128x64 ![b.val * 256 + u.val * 128, h.val * 64] (qAll m c) (slices_q b u h) (ix2 i d)
        * kA m c b.val (u.val * 128) (h.val * 64) (inb_box b u h) (ix3 (0 : Fin 1) t d)
        = (((∑ y : Fin 512, x (ix3 b (queryRow c u i) y) * (w (ix2 y (⟨h.val * 64 + d.val, by omega⟩ : Fin 256)) * (1 / 8))) * k (ix4 b (keyRow c u t) h d) : ℝ) : EReal) := by
      intro d
      rw [slice_at, qAll_at m X Wq tX hX hW, kA, box_k_at, kfull_at m K tK hK, eighth_eq]
      simp only [rX, rW, rK, ← EReal.coe_mul, ← Softmax.coe_sum]
      rfl
    rw [Finset.sum_congr rfl fun d _ => hd d, ← Softmax.coe_sum]
    refine congrArg _ ?_
    unfold score
    rw [Finset.sum_mul]
    refine Finset.sum_congr rfl fun d _ => ?_
    simp only [Finset.sum_mul]
    refine Finset.sum_congr rfl fun y _ => ?_
    ring
  rw [hs, Softmax.exp_add]
  rfl

include hX hW hK hV rX rW rK in
/-- A block of attention of the kernel is the reference's context. -/
theorem blockAt_eq (c : Dev nD) (b u : Fin 2) (h : Fin 4) (i : Fin 128) (d : Fin 64) :
    blockAt m c b u h (ix2 i d) = context X Wq K V (ix4 b h d (queryRow c u i)) := by
  rw [context_mean X Wq K V x w k rX rW rK,
    ← Softmax.mean_comp (fun j => Near (queryRow c u i) j) (score x w k b h (queryRow c u i)) (fun j => V (ix4 b j h d)) (Seen c u i)
      (keyRow c u) (keyRow_injective c u) (seen_iff c u i) (near_keyRow c u i)]
  unfold blockAt
  rw [head_at]
  have hv : ∀ t : Fin 384, vA m c b.val (u.val * 128) (h.val * 64) (inb_box b u h) (ix3 (0 : Fin 1) t d) = V (ix4 b (keyRow c u t) h d) := by
    intro t
    rw [vA, box_v_at, vfull_at m V tK hV]
    rfl
  simp only [headExp_eq m X Wq K tX tK hX hW hK x w k rX rW rK, hv]
  rfl

include hO in
theorem outAt_sum (c : Dev nD) (b : Fin 2) (r : Fin 256) (n : Fin 512) :
    (outAt m c (ix3 b r n) : EReal) = ∑ e : Fin 256, contextAt m c (ix2 (⟨b.val * 256 + r.val, by omega⟩ : Fin 512) e) * Wo (ix2 e n) := by
  refine (outAt_at m c b r n).trans ?_
  rw [wost_eq, hO]

include hX hW hK hV hO rX rW rK in
/-- What device `c` writes is its block of the answer. -/
theorem outAt_answer (c : Dev nD) : outAt m c = Layout.block S2x256x512 S2x4096x512 1 16 c (answer X Wq K V Wo) tX := by
  funext j
  obtain ⟨b, r, n, rfl⟩ : ∃ (b : Fin 2) (r : Fin 256) (n : Fin 512), j = ix3 b r n := ⟨j 0, j 1, j 2, by funext a; fin_cases a <;> rfl⟩
  refine Eq.trans (α := EReal) (outAt_sum m Wo hO c b r n) (Eq.trans (α := EReal) ?_ (block3_at c (answer X Wq K V Wo) tX b r n).symm)
  refine Eq.trans (α := EReal) (Finset.sum_congr rfl fun e _ => ?_) (answer_at X Wq K V Wo b _ n).symm
  have hr := r.isLt
  have he := e.isLt
  have h1 := contextAt_at m c b (⟨r.val / 128, by omega⟩ : Fin 2) (⟨r.val % 128, by omega⟩ : Fin 128) e
  have h2 := rowsAt_at m c b (⟨r.val / 128, by omega⟩ : Fin 2) (⟨r.val % 128, by omega⟩ : Fin 128) (⟨e.val / 64, by omega⟩ : Fin 4) (⟨e.val % 64, by omega⟩ : Fin 64)
  have h3 := blockAt_eq m X Wq K V tX tK hX hW hK hV x w k rX rW rK c b (⟨r.val / 128, by omega⟩ : Fin 2) (⟨e.val / 64, by omega⟩ : Fin 4) (⟨r.val % 128, by omega⟩ : Fin 128) (⟨e.val % 64, by omega⟩ : Fin 64)
  have a1 : (⟨b.val * 256 + r.val / 128 * 128 + r.val % 128, by omega⟩ : Fin 512) = ⟨b.val * 256 + r.val, by omega⟩ := Fin.ext (by show b.val * 256 + r.val / 128 * 128 + r.val % 128 = b.val * 256 + r.val; omega)
  have a2 : (⟨e.val / 64 * 64 + e.val % 64, by omega⟩ : Fin 256) = e := Fin.ext (by show e.val / 64 * 64 + e.val % 64 = e.val; omega)
  have a3 : queryRow c (⟨r.val / 128, by omega⟩ : Fin 2) (⟨r.val % 128, by omega⟩ : Fin 128) = ⟨256 * c.val + r.val, by have : c.val < 16 := c.isLt; omega⟩ :=
    Fin.ext (by show 256 * c.val + (r.val / 128 * 128 + r.val % 128) = 256 * c.val + r.val; omega)
  simp only [a1] at h1
  simp only [a2] at h2
  rw [a3] at h3
  rw [h1, h2, h3]

end Cert.KernelIdeal.Halo

end
-- ==== Proof.Math.Finite.lean ====
/-
What the precondition says: the elements of a device's blocks of x and K, and of Wq, are real numbers.
-/
module

public import proofs.«01_k».proof.Proof.Gen.Pre_finite_KernelIdeal
public import Idealize.ShloMosaic.Lib.ReduceAll
public import Idealize.ShloMosaic.PureOps.Ideal
public import Idealize.ShloMosaic.PureOps.Ideal.Laws
public import Idealize.ShloMosaic.Lib.IdealHost

@[expose] public section

noncomputable section

namespace Cert.Pre_finite_KernelIdeal

open Cert.Pre_finite_KernelIdeal Idealize.ShloMosaic

theorem inf_eq : (Ideal.ofBits .f32 0x7F800000#32 : EReal) = ⊤ := by simp [Ideal.ofBits, Ideal.ieee]

/-- An extended real whose absolute value is less than +∞ is a real number. -/
theorem real_of_abs_lt (x : EReal) (h : Ideal.cmp .olt (max x (-x)) (Ideal.ofBits .f32 0x7F800000#32) = 1#1) : ∃ r : ℝ, x = (r : EReal) := by
  rw [inf_eq] at h
  induction x with
  | bot => simp [Ideal.cmp] at h
  | top => simp [Ideal.cmp] at h
  | coe r => exact ⟨r, rfl⟩

variable [hf : Facts]

theorem real_args (X : FVec Ideal S2x256x512 .f32) (Wq : FVec Ideal S512x256 .f32) (K V : FVec Ideal S2x256x4x64 .f32) (Wo : FVec Ideal S256x512 .f32)
    (h : fn X Wq K V Wo = fun _ => 1#1) :
    (∀ i, ∃ r : ℝ, X i = (r : EReal)) ∧ (∀ i, ∃ r : ℝ, Wq i = (r : EReal)) ∧ ∀ i, ∃ r : ℝ, K i = (r : EReal) := by
  have e := congrFun h (fun a => a.elim0)
  dsimp only [fn] at e
  have both : ∀ a b : BitVec 1, IntOp.andi a b = 1#1 → a = 1#1 ∧ b = 1#1 := by decide
  obtain ⟨e12, e3⟩ := both _ _ e
  obtain ⟨e1, e2⟩ := both _ _ e12
  refine ⟨fun i => real_of_abs_lt _ ?_, fun i => real_of_abs_lt _ ?_, fun i => real_of_abs_lt _ ?_⟩
  · exact Host.reduce_andi_all _ _ _ _ _ e1 i
  · exact Host.reduce_andi_all _ _ _ _ _ e2 i
  · exact Host.reduce_andi_all _ _ _ _ _ e3 i

end Cert.Pre_finite_KernelIdeal

end
-- ==== Proof.lean ====
module

public import proofs.«01_k».proof.Defs
public import proofs.«01_k».proof.Proof.Kernel.Result
public import proofs.«01_k».proof.Proof.KernelIdeal.Result
public import proofs.«01_k».proof.Proof.Math.KernelMean
public import proofs.«01_k».proof.Proof.Math.Finite
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Quiescent
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m g _ =>
  (θ_run Cert.Kernel.defs _ _).mono (fun _ h => ⟨fun c => (h.1 c).2, h.2⟩) (Cert.Kernel.Halo.result m g)

theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Halo.result m g)

theorem frame_referenceIdeal : Cert.quiescent_ReferenceIdeal (hReferenceIdeal := Cert.ReferenceIdeal.Gen.facts) := fun m g _ =>
  (θ_run Cert.ReferenceIdeal.defs _ _).mono (fun _ h => ⟨fun c => (h c).2, sem_eq_zero_of_no_sems rfl _⟩) (Cert.ReferenceIdeal.Value.run m g)

theorem preserves : Cert.preserves_Kernel_KernelIdeal :=
  IdealRules.named_const.statement Cert.KernelIdeal.κ "mask" .f32 0xCE6E6B28#32 ⊥ rfl

/-- From finite x, Wq and K, every device writes its block of the reference's result. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hm
  have real := fun c => Cert.Pre_finite_KernelIdeal.real_args (hf := Cert.Pre_finite_KernelIdeal.Gen.facts) _ _ _ _ _ (hpre c)
  have rX := Cert.KernelIdeal.Halo.real_of_blocks3 (m' (((0 : Dev Cert.ReferenceIdeal.nD).tc : Thread Cert.ReferenceIdeal.nD Cert.ReferenceIdeal.τ).loc Cert.ReferenceIdeal.main_arg0))
    (by decide) (fun c i => by rw [← (hm c).1]; exact (real c).1 i)
  have rW := fun i => (hm 0).2.1 ▸ (real 0).2.1 i
  have rK := Cert.KernelIdeal.Halo.real_of_blocks4 (m' (((0 : Dev Cert.ReferenceIdeal.nD).tc : Thread Cert.ReferenceIdeal.nD Cert.ReferenceIdeal.τ).loc Cert.ReferenceIdeal.main_arg2))
    (by decide) (fun c i => by rw [← (hm c).2.2.1]; exact (real c).2.2 i)
  choose x hx using rX
  choose w hw using rW
  choose k hk using rK
  refine ⟨Cert.ReferenceIdeal.Value.res_main_v34 m' 0, ?_, ?_⟩
  · refine (θ_run Cert.KernelIdeal.defs _ _).mono (fun r h c => ⟨(h.1 c).1.trans ?_, (h.1 c).2⟩) (Cert.KernelIdeal.Halo.result m g)
    exact Cert.KernelIdeal.Halo.outAt_answer m _ _ _ _ _ _ _ (fun c => (hm c).1) (fun c => (hm c).2.1) (fun c => (hm c).2.2.1)
      (fun c => (hm c).2.2.2.1) (fun c => (hm c).2.2.2.2) x w k hx hw hk c
  · exact (θ_run Cert.ReferenceIdeal.defs _ _).mono (fun r h => h 0) (Cert.ReferenceIdeal.Value.run m' g')

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, fun m g _ => frame_kernelIdeal m g trivial,
  frame_referenceIdeal, fun m g _ => frame_referenceIdeal m g trivial, preserves, algebraic⟩

end Cert.Proof

end
